-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_v18) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x640x1024 : Shape := ⟨3, ![3, 640, 1024]⟩
abbrev S3x640 : Shape := ⟨2, ![3, 640]⟩
abbrev S3x640x16 : Shape := ⟨3, ![3, 640, 16]⟩
abbrev S4096x1024 : Shape := ⟨2, ![4096, 1024]⟩
abbrev S1024 : Shape := ⟨1, ![1024]⟩
abbrev S4096x16 : Shape := ⟨2, ![4096, 16]⟩
abbrev S16x1024 : Shape := ⟨2, ![16, 1024]⟩
abbrev S1920x1024 : Shape := ⟨2, ![1920, 1024]⟩
abbrev S3x16x640 : Shape := ⟨3, ![3, 16, 640]⟩
abbrev S1x1024 : Shape := ⟨2, ![1, 1024]⟩
abbrev S16x4096 : Shape := ⟨2, ![16, 4096]⟩
abbrev S1920x4096 : Shape := ⟨2, ![1920, 4096]⟩
abbrev S512x1024 : Shape := ⟨2, ![512, 1024]⟩
abbrev S16x512 : Shape := ⟨2, ![16, 512]⟩
abbrev S1920x512 : Shape := ⟨2, ![1920, 512]⟩
abbrev S1920x128 : Shape := ⟨2, ![1920, 128]⟩
abbrev S1920x16 : Shape := ⟨2, ![1920, 16]⟩
abbrev S1x128 : Shape := ⟨2, ![1, 128]⟩
abbrev S128x128 : Shape := ⟨2, ![128, 128]⟩
abbrev S1x640 : Shape := ⟨2, ![1, 640]⟩
abbrev S1x1920 : Shape := ⟨2, ![1, 1920]⟩
abbrev S16x1920 : Shape := ⟨2, ![16, 1920]⟩
abbrev S16x640 : Shape := ⟨2, ![16, 640]⟩
abbrev S1x16x640 : Shape := ⟨3, ![1, 16, 640]⟩
abbrev S3x640x4096 : Shape := ⟨3, ![3, 640, 4096]⟩

abbrev nBuf : Space → Nat
  | .hbm => 17
  | .vmem => 17
  | .smem => 0
  | _ => 0

abbrev bufTy : (tb : Table) → Fin (tcTables nBuf tb) → BufTy
  | .hbm, ⟨0, _⟩ => ⟨S3x640x1024, .fp8e5m2⟩
  | .hbm, ⟨1, _⟩ => ⟨S3x640, .f32⟩
  | .hbm, ⟨2, _⟩ => ⟨S3x640x16, .fp8e4m3⟩
  | .hbm, ⟨3, _⟩ => ⟨S3x640, .f32⟩
  | .hbm, ⟨4, _⟩ => ⟨S4096x1024, .fp8e4m3⟩
  | .hbm, ⟨5, _⟩ => ⟨S1024, .f32⟩
  | .hbm, ⟨6, _⟩ => ⟨S4096x16, .bf16⟩
  | .hbm, ⟨7, _⟩ => ⟨S16x1024, .bf16⟩
  | .hbm, ⟨8, _⟩ => ⟨S1920x1024, .fp8e5m2⟩
  | .hbm, ⟨9, _⟩ => ⟨S3x16x640, .fp8e4m3⟩
  | .hbm, ⟨10, _⟩ => ⟨S1x1024, .f32⟩
  | .hbm, ⟨11, _⟩ => ⟨S16x4096, .bf16⟩
  | .hbm, ⟨12, _⟩ => ⟨S1920x4096, .bf16⟩
  | .hbm, ⟨13, _⟩ => ⟨S16x1024, .f32⟩
  | .hbm, ⟨14, _⟩ => ⟨S3x16x640, .bf16⟩
  | .hbm, ⟨15, _⟩ => ⟨S3x640x4096, .bf16⟩
  | .hbm, ⟨16, _⟩ => ⟨S3x640x16, .bf16⟩
  | .local _ .vmem, ⟨0, _⟩ => ⟨S1920x1024, .fp8e5m2⟩
  | .local _ .vmem, ⟨1, _⟩ => ⟨S3x640, .f32⟩
  | .local _ .vmem, ⟨2, _⟩ => ⟨S3x16x640, .fp8e4m3⟩
  | .local _ .vmem, ⟨3, _⟩ => ⟨S3x640, .f32⟩
  | .local _ .vmem, ⟨4, _⟩ => ⟨S512x1024, .fp8e4m3⟩
  | .local _ .vmem, ⟨5, _⟩ => ⟨S512x1024, .fp8e4m3⟩
  | .local _ .vmem, ⟨6, _⟩ => ⟨S1x1024, .f32⟩
  | .local _ .vmem, ⟨7, _⟩ => ⟨S16x512, .bf16⟩
  | .local _ .vmem, ⟨8, _⟩ => ⟨S16x512, .bf16⟩
  | .local _ .vmem, ⟨9, _⟩ => ⟨S16x1024, .bf16⟩
  | .local _ .vmem, ⟨10, _⟩ => ⟨S1920x512, .bf16⟩
  | .local _ .vmem, ⟨11, _⟩ => ⟨S1920x512, .bf16⟩
  | .local _ .vmem, ⟨12, _⟩ => ⟨S16x1024, .f32⟩
  | .local _ .vmem, ⟨13, _⟩ => ⟨S3x16x640, .bf16⟩
  | .local _ .vmem, ⟨14, _⟩ => ⟨S1920x1024, .bf16⟩
  | .local _ .vmem, ⟨15, _⟩ => ⟨S1920x128, .f32⟩
  | .local _ .vmem, ⟨16, _⟩ => ⟨S1920x16, .bf16⟩
  | _, _ => ⟨S3x640x1024, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S1920x1024 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x16x640 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S16x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1920x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S16x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x16x640 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S3x640x1024 : Shape := ⟨3, ![3, 640, 1024]⟩
abbrev S3x640 : Shape := ⟨2, ![3, 640]⟩
abbrev S3x640x16 : Shape := ⟨3, ![3, 640, 16]⟩
abbrev S4096x1024 : Shape := ⟨2, ![4096, 1024]⟩
abbrev S1024 : Shape := ⟨1, ![1024]⟩
abbrev S4096x16 : Shape := ⟨2, ![4096, 16]⟩
abbrev S16x1024 : Shape := ⟨2, ![16, 1024]⟩
abbrev S3x640x1 : Shape := ⟨3, ![3, 640, 1]⟩
abbrev S_ : Shape := ⟨0, ![]⟩
abbrev S1x1024 : Shape := ⟨2, ![1, 1024]⟩
abbrev S3x640x4096 : Shape := ⟨3, ![3, 640, 4096]⟩

abbrev nBuf : Space → Nat
  | .hbm => 42
  | .vmem => 6
  | .smem => 0
  | _ => 0

abbrev bufTy : (tb : Table) → Fin (tcTables nBuf tb) → BufTy
  | .hbm, ⟨0, _⟩ => ⟨S3x640x1024, .fp8e5m2⟩
  | .hbm, ⟨1, _⟩ => ⟨S3x640, .f32⟩
  | .hbm, ⟨2, _⟩ => ⟨S3x640x16, .fp8e4m3⟩
  | .hbm, ⟨3, _⟩ => ⟨S3x640, .f32⟩
  | .hbm, ⟨4, _⟩ => ⟨S4096x1024, .fp8e4m3⟩
  | .hbm, ⟨5, _⟩ => ⟨S1024, .f32⟩
  | .hbm, ⟨6, _⟩ => ⟨S4096x16, .bf16⟩
  | .hbm, ⟨7, _⟩ => ⟨S16x1024, .bf16⟩
  | .hbm, ⟨8, _⟩ => ⟨S3x640x1024, .bf16⟩
  | .hbm, ⟨9, _⟩ => ⟨S3x640x16, .bf16⟩
  | .hbm, ⟨10, _⟩ => ⟨S4096x1024, .bf16⟩
  | .hbm, ⟨11, _⟩ => ⟨S3x640, .bf16⟩
  | .hbm, ⟨12, _⟩ => ⟨S3x640x1, .bf16⟩
  | .hbm, ⟨13, _⟩ => ⟨S3x640x16, .bf16⟩
  | .hbm, ⟨14, _⟩ => ⟨S3x640x16, .bf16⟩
  | .hbm, ⟨15, _⟩ => ⟨S3x640, .bf16⟩
  | .hbm, ⟨16, _⟩ => ⟨S3x640x1, .bf16⟩
  | .hbm, ⟨17, _⟩ => ⟨S3x640x1024, .bf16⟩
  | .hbm, ⟨18, _⟩ => ⟨S3x640x1024, .bf16⟩
  | .hbm, ⟨19, _⟩ => ⟨S16x1024, .f32⟩
  | .hbm, ⟨20, _⟩ => ⟨S_, .f32⟩
  | .hbm, ⟨21, _⟩ => ⟨S16x1024, .f32⟩
  | .hbm, ⟨22, _⟩ => ⟨S16x1024, .f32⟩
  | .hbm, ⟨23, _⟩ => ⟨S3x640x16, .f32⟩
  | .hbm, ⟨24, _⟩ => ⟨S3x640x1, .f32⟩
  | .hbm, ⟨25, _⟩ => ⟨S3x640x16, .f32⟩
  | .hbm, ⟨26, _⟩ => ⟨S3x640x16, .f32⟩
  | .hbm, ⟨27, _⟩ => ⟨S_, .f32⟩
  | .hbm, ⟨28, _⟩ => ⟨S3x640x16, .f32⟩
  | .hbm, ⟨29, _⟩ => ⟨S3x640x16, .f32⟩
  | .hbm, ⟨30, _⟩ => ⟨S3x640x16, .bf16⟩
  | .hbm, ⟨31, _⟩ => ⟨S1024, .bf16⟩
  | .hbm, ⟨32, _⟩ => ⟨S1x1024, .bf16⟩
  | .hbm, ⟨33, _⟩ => ⟨S4096x1024, .bf16⟩
  | .hbm, ⟨34, _⟩ => ⟨S4096x1024, .bf16⟩
  | .hbm, ⟨35, _⟩ => ⟨S3x640x4096, .f32⟩
  | .hbm, ⟨36, _⟩ => ⟨S3x640x1, .f32⟩
  | .hbm, ⟨37, _⟩ => ⟨S3x640x4096, .f32⟩
  | .hbm, ⟨38, _⟩ => ⟨S3x640x4096, .f32⟩
  | .hbm, ⟨39, _⟩ => ⟨S3x640x4096, .f32⟩
  | .hbm, ⟨40, _⟩ => ⟨S3x640x4096, .f32⟩
  | .hbm, ⟨41, _⟩ => ⟨S3x640x4096, .bf16⟩
  | .local _ .vmem, ⟨0, _⟩ => ⟨S3x640x1024, .fp8e5m2⟩
  | .local _ .vmem, ⟨1, _⟩ => ⟨S3x640x16, .fp8e4m3⟩
  | .local _ .vmem, ⟨2, _⟩ => ⟨S4096x1024, .fp8e4m3⟩
  | .local _ .vmem, ⟨3, _⟩ => ⟨S3x640x1024, .bf16⟩
  | .local _ .vmem, ⟨4, _⟩ => ⟨S3x640x16, .bf16⟩
  | .local _ .vmem, ⟨5, _⟩ => ⟨S4096x1024, .bf16⟩
  | _, _ => ⟨S3x640x1024, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S3x640x1024 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x640x16 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x640x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x640x16 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Bits.Shared.lean ====
/- What the runs of the kernel's body share: the branch condition over the grid points, where the windows are idle, and
   the memrefs the body is called with. -/
module

public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import Idealize.ShloMosaic.Lib.Pipeline.FrameBody
public import Idealize.ShloMosaic.Lib.Pipeline.FrameSuffix
public import Idealize.ShloMosaic.Lib.Pipeline.TableIdle
public import Idealize.ShloMosaic.Lib.Tactic
public import Idealize.ShloMosaic.Lib.WordCmp

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, k0_cond1, e0]
    word_cmp
   : ∀ t : Fin grid0.N, cond0_0 (grid0.coords t) ↔ t.val % 8 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-! ## The memrefs the body is called with -/

/-- Each window's current staging memref at point `t`, spelled as the pipeline passes it (`bodyAt0`), and its wholeness. -/
abbrev ms0_0 (t : Fin cfg0.N) : Memref sig .tc .vmem S1920x1024 .fp8e5m2 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3x640 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3x16x640 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x640 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1024 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S16x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1920x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S16x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S3x16x640 .bf16 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S1920x1024 .bf16 := Memref.whole cc0_scratch0
abbrev scM0_1 : Memref sig .tc .vmem S1920x128 .f32 := Memref.whole cc0_scratch1
abbrev scM0_2 : Memref sig .tc .vmem S1920x16 .bf16 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Body

end
-- ==== Proof.Bits.BodyLater.lean ====
/- The kernel's body at a point after the first: it reads the scratch buffers the first point filled and stores the
   point's block of `dx`; the buffers of `db` and `dh` it leaves as it finds them. -/
module

public import proofs.«01_k».proof.Proof.Bits.Shared
public import Idealize.ShloMosaic.Lib.Pipeline.Value

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- The point's block of `dx`, from the block of `w` (codes and scales), the block of `lora_a` and the scratch buffers
    (`dy` in bf16, the token scales, `dh`). -/
def dxBlk (x4 : Vec F S512x1024 .fp8e4m3) (x5 : Vec F S1x1024 .f32) (x6 : Vec F S16x512 .bf16)
    (s0 : Vec F S1920x1024 .bf16) (s1 : Vec F S1920x128 .f32) (s2 : Vec F S1920x16 .bf16) : Vec F S1920x512 .bf16 :=
  k0_pay1 x4 x5 s0 s2 x6 s1

/-- The offsets of an access to the whole of a rank-2 buffer are all zero. -/
theorem zeros2 : (![0, 0] : Fin 2 → Nat) = fun _ => 0 := by funext a; fin_cases a <;> rfl

set_option maxHeartbeats 1000000 in
/-- The body's run at a point after the first. -/
theorem run_later (c : Dev nD) (i : grid0.Coords) (arg1 : Memref sig .tc .vmem S1920x1024 .fp8e5m2) (harg1 : arg1.IsWhole) (arg2 : Memref sig .tc .vmem S3x640 .f32) (harg2 : arg2.IsWhole) (arg3 : Memref sig .tc .vmem S3x16x640 .fp8e4m3) (harg3 : arg3.IsWhole) (arg4 : Memref sig .tc .vmem S3x640 .f32) (harg4 : arg4.IsWhole) (arg5 : Memref sig .tc .vmem S512x1024 .fp8e4m3) (harg5 : arg5.IsWhole) (arg6 : Memref sig .tc .vmem S1x1024 .f32) (harg6 : arg6.IsWhole) (arg7 : Memref sig .tc .vmem S16x512 .bf16) (harg7 : arg7.IsWhole) (arg8 : Memref sig .tc .vmem S16x1024 .bf16) (harg8 : arg8.IsWhole) (arg9 : Memref sig .tc .vmem S1920x512 .bf16) (harg9 : arg9.IsWhole) (arg10 : Memref sig .tc .vmem S16x1024 .f32) (harg10 : arg10.IsWhole) (arg11 : Memref sig .tc .vmem S3x16x640 .bf16) (harg11 : arg11.IsWhole) (arg12 : Memref sig .tc .vmem S1920x1024 .bf16) (harg12 : arg12.IsWhole) (arg13 : Memref sig .tc .vmem S1920x128 .f32) (harg13 : arg13.IsWhole) (arg14 : Memref sig .tc .vmem S1920x16 .bf16) (harg14 : arg14.IsWhole) (hc0 : ¬cond0_0 i)
    (x0 : Vec F S1920x1024 .fp8e5m2) (x1 : Vec F S3x640 .f32) (x2 : Vec F S3x16x640 .fp8e4m3) (x3 : Vec F S3x640 .f32) (x4 : Vec F S512x1024 .fp8e4m3) (x5 : Vec F S1x1024 .f32) (x6 : Vec F S16x512 .bf16) (x7 : Vec F S16x1024 .bf16)
    (x9 : Vec F S16x1024 .f32) (x10 : Vec F S3x16x640 .bf16) (s0 : Vec F S1920x1024 .bf16) (s1 : Vec F S1920x128 .f32) (s2 : Vec F S1920x16 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare x9 ∗ owns (c : Thread nD τ) arg11 fullShare x10 ∗ owns (c : Thread nD τ) arg12 fullShare s0 ∗ owns (c : Thread nD τ) arg13 fullShare s1 ∗ owns (c : Thread nD τ) arg14 fullShare s2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (dxBlk x4 x5 x6 s0 s1 s2) ∗ owns (c : Thread nD τ) arg10 fullShare x9 ∗ owns (c : Thread nD τ) arg11 fullShare x10 ∗ owns (c : Thread nD τ) arg12 fullShare s0 ∗ owns (c : Thread nD τ) arg13 fullShare s1 ∗ owns (c : Thread nD τ) arg14 fullShare s2) -∗ K ⟨⟩))
          ⊢ wp frame (wpE (defs₀ (F := F)) Variants.none c none) E (cc0_lora_fa_bwd i arg1 harg1 arg2 harg2 arg3 harg3 arg4 harg4 arg5 harg5 arg6 harg6 arg7 harg7 arg8 harg8 arg9 harg9 arg10 harg10 arg11 harg11 arg12 harg12 arg13 harg13 arg14 harg14) K := by
    intro E K
    simp only [cc0_lora_fa_bwd_eq_skeleton]; unfold cc0_lora_fa_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9; obtain rfl := harg11.eq_unread hf10; obtain rfl := harg12.eq_unread hfs0; obtain rfl := harg13.eq_unread hfs1; obtain rfl := harg14.eq_unread hfs2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr
      swap; · iexact H8
      ipureintro
      refine (View.read_writes_eq_canon _ _ _ (View.cover_of_tiled _ S1920x512.size (by rfl))).trans ?_
      rw [View.canon_unit_zero zeros2]
      simp only [View.readAt_eq_ld, harg5.read_unread, harg6.read_unread, harg7.read_unread, harg12.read_unread, harg13.read_unread, harg14.read_unread]
      unfold dxBlk
      congr 1 <;> exact View.ld_unit_zero zeros2 _ _
    isplitl [H9]
    · iexists _; isplitr; · ipureintro; exact harg10.read_unread _
      iexact H9
    isplitl [H10]
    · iexists _; isplitr; · ipureintro; exact harg11.read_unread _
      iexact H10
    isplitl [HS0]
    · iexists _; isplitr; · ipureintro; exact harg12.read_unread _
      iexact HS0
    isplitl [HS1]
    · iexists _; isplitr; · ipureintro; exact harg13.read_unread _
      iexact HS1
    iexists _; isplitr; · ipureintro; exact harg14.read_unread _
    iexact HS2

end Cert.Kernel.Body

end
-- ==== Proof.Bits.BodyFirst.lean ====
/- The kernel's body at the first point: it fills the scratch buffers (`dy` in bf16, the token scales, `dh`), stores `db`
   and `dh`, and stores the first block of `dx`. -/
module

public import proofs.«01_k».proof.Proof.Bits.BodyLater

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- `dy` in bf16: the first scratch buffer after the first point. -/
def dyV (x0 : Vec F S1920x1024 .fp8e5m2) : Vec F S1920x1024 .bf16 := k0_pay17 x0

/-- The token scales, one row of 128 equal columns per token: the second scratch buffer after the first point, filled by
    fifteen stores of 128 rows (last first). -/
def scaleV (x1 : Vec F S3x640 .f32) : Vec F S1920x128 .f32 :=
  View.canon [
    ⟨Rect.unit (s := S1920x128) ![1792, 0] S128x128.size inb_S1920x128_S128x128_1792_0, k0_pay16 (View.ld x1 (Rect.unit (s := S3x640) ![2, 512] S1x128.size inb_S3x640_S1x128_2_512))⟩,
    ⟨Rect.unit (s := S1920x128) ![1664, 0] S128x128.size inb_S1920x128_S128x128_1664_0, k0_pay15 (View.ld x1 (Rect.unit (s := S3x640) ![2, 384] S1x128.size inb_S3x640_S1x128_2_384))⟩,
    ⟨Rect.unit (s := S1920x128) ![1536, 0] S128x128.size inb_S1920x128_S128x128_1536_0, k0_pay14 (View.ld x1 (Rect.unit (s := S3x640) ![2, 256] S1x128.size inb_S3x640_S1x128_2_256))⟩,
    ⟨Rect.unit (s := S1920x128) ![1408, 0] S128x128.size inb_S1920x128_S128x128_1408_0, k0_pay13 (View.ld x1 (Rect.unit (s := S3x640) ![2, 128] S1x128.size inb_S3x640_S1x128_2_128))⟩,
    ⟨Rect.unit (s := S1920x128) ![1280, 0] S128x128.size inb_S1920x128_S128x128_1280_0, k0_pay12 (View.ld x1 (Rect.unit (s := S3x640) ![2, 0] S1x128.size inb_S3x640_S1x128_2_0))⟩,
    ⟨Rect.unit (s := S1920x128) ![1152, 0] S128x128.size inb_S1920x128_S128x128_1152_0, k0_pay11 (View.ld x1 (Rect.unit (s := S3x640) ![1, 512] S1x128.size inb_S3x640_S1x128_1_512))⟩,
    ⟨Rect.unit (s := S1920x128) ![1024, 0] S128x128.size inb_S1920x128_S128x128_1024_0, k0_pay10 (View.ld x1 (Rect.unit (s := S3x640) ![1, 384] S1x128.size inb_S3x640_S1x128_1_384))⟩,
    ⟨Rect.unit (s := S1920x128) ![896, 0] S128x128.size inb_S1920x128_S128x128_896_0, k0_pay9 (View.ld x1 (Rect.unit (s := S3x640) ![1, 256] S1x128.size inb_S3x640_S1x128_1_256))⟩,
    ⟨Rect.unit (s := S1920x128) ![768, 0] S128x128.size inb_S1920x128_S128x128_768_0, k0_pay8 (View.ld x1 (Rect.unit (s := S3x640) ![1, 128] S1x128.size inb_S3x640_S1x128_1_128))⟩,
    ⟨Rect.unit (s := S1920x128) ![640, 0] S128x128.size inb_S1920x128_S128x128_640_0, k0_pay7 (View.ld x1 (Rect.unit (s := S3x640) ![1, 0] S1x128.size inb_S3x640_S1x128_1_0))⟩,
    ⟨Rect.unit (s := S1920x128) ![512, 0] S128x128.size inb_S1920x128_S128x128_512_0, k0_pay6 (View.ld x1 (Rect.unit (s := S3x640) ![0, 512] S1x128.size inb_S3x640_S1x128_0_512))⟩,
    ⟨Rect.unit (s := S1920x128) ![384, 0] S128x128.size inb_S1920x128_S128x128_384_0, k0_pay5 (View.ld x1 (Rect.unit (s := S3x640) ![0, 384] S1x128.size inb_S3x640_S1x128_0_384))⟩,
    ⟨Rect.unit (s := S1920x128) ![256, 0] S128x128.size inb_S1920x128_S128x128_256_0, k0_pay4 (View.ld x1 (Rect.unit (s := S3x640) ![0, 256] S1x128.size inb_S3x640_S1x128_0_256))⟩,
    ⟨Rect.unit (s := S1920x128) ![128, 0] S128x128.size inb_S1920x128_S128x128_128_0, k0_pay3 (View.ld x1 (Rect.unit (s := S3x640) ![0, 128] S1x128.size inb_S3x640_S1x128_0_128))⟩,
    ⟨Rect.unit (s := S1920x128) ![0, 0] S128x128.size inb_S1920x128_S128x128_0_0, k0_pay2 (View.ld x1 (Rect.unit (s := S3x640) ![0, 0] S1x128.size inb_S3x640_S1x128_0_0))⟩]

/-- `dh` transposed, as stored: one page of the three per store (last first). -/
def dhtV (x0 : Vec F S1920x1024 .fp8e5m2) (x1 : Vec F S3x640 .f32) (x7 : Vec F S16x1024 .bf16) : Vec F S3x16x640 .bf16 :=
  View.canon [
    ⟨Rect.unit (s := S3x16x640) ![2, 0, 0] S1x16x640.size inb_S3x16x640_S1x16x640_2_0_0, k0_pay21 (View.ld x1 (Rect.unit (s := S3x640) ![0, 0] S1x640.size inb_S3x640_S1x640_0_0)) (View.ld x1 (Rect.unit (s := S3x640) ![1, 0] S1x640.size inb_S3x640_S1x640_1_0)) (View.ld x1 (Rect.unit (s := S3x640) ![2, 0] S1x640.size inb_S3x640_S1x640_2_0)) x7 (dyV x0)⟩,
    ⟨Rect.unit (s := S3x16x640) ![1, 0, 0] S1x16x640.size inb_S3x16x640_S1x16x640_1_0_0, k0_pay20 (View.ld x1 (Rect.unit (s := S3x640) ![0, 0] S1x640.size inb_S3x640_S1x640_0_0)) (View.ld x1 (Rect.unit (s := S3x640) ![1, 0] S1x640.size inb_S3x640_S1x640_1_0)) (View.ld x1 (Rect.unit (s := S3x640) ![2, 0] S1x640.size inb_S3x640_S1x640_2_0)) x7 (dyV x0)⟩,
    ⟨Rect.unit (s := S3x16x640) ![0, 0, 0] S1x16x640.size inb_S3x16x640_S1x16x640_0_0_0, k0_pay19 (View.ld x1 (Rect.unit (s := S3x640) ![0, 0] S1x640.size inb_S3x640_S1x640_0_0)) (View.ld x1 (Rect.unit (s := S3x640) ![1, 0] S1x640.size inb_S3x640_S1x640_1_0)) (View.ld x1 (Rect.unit (s := S3x640) ![2, 0] S1x640.size inb_S3x640_S1x640_2_0)) x7 (dyV x0)⟩]

/-- `dh`, one row per token: the third scratch buffer after the first point. -/
def dhV (x0 : Vec F S1920x1024 .fp8e5m2) (x1 : Vec F S3x640 .f32) (x7 : Vec F S16x1024 .bf16) : Vec F S1920x16 .bf16 :=
  k0_pay23 (k0_pay22 (View.ld x1 (Rect.unit (s := S3x640) ![0, 0] S1x640.size inb_S3x640_S1x640_0_0)) (View.ld x1 (Rect.unit (s := S3x640) ![1, 0] S1x640.size inb_S3x640_S1x640_1_0)) (View.ld x1 (Rect.unit (s := S3x640) ![2, 0] S1x640.size inb_S3x640_S1x640_2_0)) x7 (dyV x0))

/-- `db`. -/
def dbV (x0 : Vec F S1920x1024 .fp8e5m2) (x1 : Vec F S3x640 .f32) (x2 : Vec F S3x16x640 .fp8e4m3) (x3 : Vec F S3x640 .f32) : Vec F S16x1024 .f32 :=
  k0_pay24 (dyV x0) (scaleV x1) (View.ld x2 (Rect.unit (s := S3x16x640) ![0, 0, 0] S1x16x640.size inb_S3x16x640_S1x16x640_0_0_0)) (View.ld x3 (Rect.unit (s := S3x640) ![0, 0] S1x640.size inb_S3x640_S1x640_0_0)) (View.ld x2 (Rect.unit (s := S3x16x640) ![1, 0, 0] S1x16x640.size inb_S3x16x640_S1x16x640_1_0_0)) (View.ld x3 (Rect.unit (s := S3x640) ![1, 0] S1x640.size inb_S3x640_S1x640_1_0)) (View.ld x2 (Rect.unit (s := S3x16x640) ![2, 0, 0] S1x16x640.size inb_S3x16x640_S1x16x640_2_0_0)) (View.ld x3 (Rect.unit (s := S3x640) ![2, 0] S1x640.size inb_S3x640_S1x640_2_0))

/-- The fifteen stores cover the scale buffer. -/
theorem scale_covered (p0 : Vec F S128x128 .f32) (p1 : Vec F S128x128 .f32) (p2 : Vec F S128x128 .f32) (p3 : Vec F S128x128 .f32) (p4 : Vec F S128x128 .f32) (p5 : Vec F S128x128 .f32) (p6 : Vec F S128x128 .f32) (p7 : Vec F S128x128 .f32) (p8 : Vec F S128x128 .f32) (p9 : Vec F S128x128 .f32) (p10 : Vec F S128x128 .f32) (p11 : Vec F S128x128 .f32) (p12 : Vec F S128x128 .f32) (p13 : Vec F S128x128 .f32) (p14 : Vec F S128x128 .f32) (y : S1920x128.Idx) :
    ∃ pc ∈ ([
    ⟨Rect.unit (s := S1920x128) ![1792, 0] S128x128.size inb_S1920x128_S128x128_1792_0, p14⟩,
    ⟨Rect.unit (s := S1920x128) ![1664, 0] S128x128.size inb_S1920x128_S128x128_1664_0, p13⟩,
    ⟨Rect.unit (s := S1920x128) ![1536, 0] S128x128.size inb_S1920x128_S128x128_1536_0, p12⟩,
    ⟨Rect.unit (s := S1920x128) ![1408, 0] S128x128.size inb_S1920x128_S128x128_1408_0, p11⟩,
    ⟨Rect.unit (s := S1920x128) ![1280, 0] S128x128.size inb_S1920x128_S128x128_1280_0, p10⟩,
    ⟨Rect.unit (s := S1920x128) ![1152, 0] S128x128.size inb_S1920x128_S128x128_1152_0, p9⟩,
    ⟨Rect.unit (s := S1920x128) ![1024, 0] S128x128.size inb_S1920x128_S128x128_1024_0, p8⟩,
    ⟨Rect.unit (s := S1920x128) ![896, 0] S128x128.size inb_S1920x128_S128x128_896_0, p7⟩,
    ⟨Rect.unit (s := S1920x128) ![768, 0] S128x128.size inb_S1920x128_S128x128_768_0, p6⟩,
    ⟨Rect.unit (s := S1920x128) ![640, 0] S128x128.size inb_S1920x128_S128x128_640_0, p5⟩,
    ⟨Rect.unit (s := S1920x128) ![512, 0] S128x128.size inb_S1920x128_S128x128_512_0, p4⟩,
    ⟨Rect.unit (s := S1920x128) ![384, 0] S128x128.size inb_S1920x128_S128x128_384_0, p3⟩,
    ⟨Rect.unit (s := S1920x128) ![256, 0] S128x128.size inb_S1920x128_S128x128_256_0, p2⟩,
    ⟨Rect.unit (s := S1920x128) ![128, 0] S128x128.size inb_S1920x128_S128x128_128_0, p1⟩,
    ⟨Rect.unit (s := S1920x128) ![0, 0] S128x128.size inb_S1920x128_S128x128_0_0, p0⟩] : List (View.Piece (Elt F) S1920x128 .f32)), y ∈ pc.1.set :=
  View.cover_of_tiled (s := S1920x128) _ S128x128.size (by rfl) y

/-- The three stores cover the `dh` buffer. -/
theorem dht_covered (p0 p1 p2 : Vec F S1x16x640 .bf16) (y : S3x16x640.Idx) :
    ∃ pc ∈ ([
    ⟨Rect.unit (s := S3x16x640) ![2, 0, 0] S1x16x640.size inb_S3x16x640_S1x16x640_2_0_0, p2⟩,
    ⟨Rect.unit (s := S3x16x640) ![1, 0, 0] S1x16x640.size inb_S3x16x640_S1x16x640_1_0_0, p1⟩,
    ⟨Rect.unit (s := S3x16x640) ![0, 0, 0] S1x16x640.size inb_S3x16x640_S1x16x640_0_0_0, p0⟩] : List (View.Piece (Elt F) S3x16x640 .bf16)), y ∈ pc.1.set :=
  View.cover_of_tiled (s := S3x16x640) _ S1x16x640.size (by rfl) y

set_option maxHeartbeats 4000000 in
/-- The body's run at the first point. -/
theorem run_first (c : Dev nD) (i : grid0.Coords) (arg1 : Memref sig .tc .vmem S1920x1024 .fp8e5m2) (harg1 : arg1.IsWhole) (arg2 : Memref sig .tc .vmem S3x640 .f32) (harg2 : arg2.IsWhole) (arg3 : Memref sig .tc .vmem S3x16x640 .fp8e4m3) (harg3 : arg3.IsWhole) (arg4 : Memref sig .tc .vmem S3x640 .f32) (harg4 : arg4.IsWhole) (arg5 : Memref sig .tc .vmem S512x1024 .fp8e4m3) (harg5 : arg5.IsWhole) (arg6 : Memref sig .tc .vmem S1x1024 .f32) (harg6 : arg6.IsWhole) (arg7 : Memref sig .tc .vmem S16x512 .bf16) (harg7 : arg7.IsWhole) (arg8 : Memref sig .tc .vmem S16x1024 .bf16) (harg8 : arg8.IsWhole) (arg9 : Memref sig .tc .vmem S1920x512 .bf16) (harg9 : arg9.IsWhole) (arg10 : Memref sig .tc .vmem S16x1024 .f32) (harg10 : arg10.IsWhole) (arg11 : Memref sig .tc .vmem S3x16x640 .bf16) (harg11 : arg11.IsWhole) (arg12 : Memref sig .tc .vmem S1920x1024 .bf16) (harg12 : arg12.IsWhole) (arg13 : Memref sig .tc .vmem S1920x128 .f32) (harg13 : arg13.IsWhole) (arg14 : Memref sig .tc .vmem S1920x16 .bf16) (harg14 : arg14.IsWhole) (hc0 : cond0_0 i)
    (x0 : Vec F S1920x1024 .fp8e5m2) (x1 : Vec F S3x640 .f32) (x2 : Vec F S3x16x640 .fp8e4m3) (x3 : Vec F S3x640 .f32) (x4 : Vec F S512x1024 .fp8e4m3) (x5 : Vec F S1x1024 .f32) (x6 : Vec F S16x512 .bf16) (x7 : Vec F S16x1024 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (dxBlk x4 x5 x6 (dyV x0) (scaleV x1) (dhV x0 x1 x7)) ∗ owns (c : Thread nD τ) arg10 fullShare (dbV x0 x1 x2 x3) ∗ owns (c : Thread nD τ) arg11 fullShare (dhtV x0 x1 x7) ∗ owns (c : Thread nD τ) arg12 fullShare (dyV x0) ∗ owns (c : Thread nD τ) arg13 fullShare (scaleV x1) ∗ owns (c : Thread nD τ) arg14 fullShare (dhV x0 x1 x7)) -∗ K ⟨⟩))
          ⊢ wp frame (wpE (defs₀ (F := F)) Variants.none c none) E (cc0_lora_fa_bwd i arg1 harg1 arg2 harg2 arg3 harg3 arg4 harg4 arg5 harg5 arg6 harg6 arg7 harg7 arg8 harg8 arg9 harg9 arg10 harg10 arg11 harg11 arg12 harg12 arg13 harg13 arg14 harg14) K := by
    intro E K
    simp only [cc0_lora_fa_bwd_eq_skeleton]; unfold cc0_lora_fa_bwd_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr
      swap; · iexact H8
      ipureintro
      sl_unfold_run_names
      refine (View.read_writes_eq_canon _ _ _ (View.cover_of_tiled _ S1920x512.size (by rfl))).trans ?_
      rw [View.canon_unit_zero zeros2]
      simp only [View.readCov_cons_toLoadRect, View.readAt_eq_ld, harg1.read_unread, harg2.read_unread, harg3.read_unread, harg4.read_unread, harg5.read_unread, harg6.read_unread, harg7.read_unread, harg8.read_unread]
      unfold dxBlk
      congr 1
      · exact View.ld_unit_zero zeros2 _ _
      · exact View.ld_unit_zero zeros2 _ _
      · exact congrArg k0_pay17 (View.ld_unit_zero zeros2 _ _)
      · unfold dhV
        congr 2
        · exact View.ld_unit_zero zeros2 _ _
        · exact congrArg k0_pay17 (View.ld_unit_zero zeros2 _ _)
      · exact View.ld_unit_zero zeros2 _ _
      · exact (View.readCov_eq_canon_ld _ _ _ (scale_covered _ _ _ _ _ _ _ _ _ _ _ _ _ _ _)).trans (View.ld_unit_zero zeros2 _ _)
    isplitl [H9]
    · iexists _; isplitr
      swap; · iexact H9
      ipureintro
      sl_unfold_run_names
      refine (View.read_writes_eq_canon _ _ _ (View.cover_of_tiled _ S16x1024.size (by rfl))).trans ?_
      rw [View.canon_unit_zero zeros2]
      simp only [View.readCov_cons_toLoadRect, View.readAt_eq_ld, harg1.read_unread, harg2.read_unread, harg3.read_unread, harg4.read_unread, harg5.read_unread, harg6.read_unread, harg7.read_unread, harg8.read_unread]
      unfold dbV
      congr 1
      · exact congrArg k0_pay17 (View.ld_unit_zero zeros2 _ _)
      · exact (View.readCov_eq_canon_ld _ _ _ (scale_covered _ _ _ _ _ _ _ _ _ _ _ _ _ _ _)).trans (View.ld_unit_zero zeros2 _ _)
    isplitl [H10]
    · iexists _; isplitr
      swap; · iexact H10
      ipureintro
      sl_unfold_run_names
      refine (View.read_writes_eq_canon _ _ _ (dht_covered _ _ _)).trans ?_
      simp only [View.readCov_cons_toLoadRect, View.readAt_eq_ld, harg1.read_unread, harg2.read_unread, harg3.read_unread, harg4.read_unread, harg5.read_unread, harg6.read_unread, harg7.read_unread, harg8.read_unread]
      unfold dhtV
      rw [show View.ld x7 (Rect.unit ![0, 0] ![16, 1024] inb_S16x1024_S16x1024_0_0) = x7 from View.ld_unit_zero zeros2 _ _, show View.ld x0 (Rect.unit ![0, 0] ![1920, 1024] inb_S1920x1024_S1920x1024_0_0) = x0 from View.ld_unit_zero zeros2 _ _]
      rfl
    isplitl [HS0]
    · iexists _; isplitr
      swap; · iexact HS0
      ipureintro
      sl_unfold_run_names
      refine (View.read_writes_eq_canon _ _ _ (View.cover_of_tiled _ S1920x1024.size (by rfl))).trans ?_
      rw [View.canon_unit_zero zeros2]
      simp only [View.readCov_cons_toLoadRect, View.readAt_eq_ld, harg1.read_unread, harg2.read_unread, harg3.read_unread, harg4.read_unread, harg5.read_unread, harg6.read_unread, harg7.read_unread, harg8.read_unread]
      exact congrArg k0_pay17 (View.ld_unit_zero zeros2 _ _)
    isplitl [HS1]
    · iexists _; isplitr
      swap; · iexact HS1
      ipureintro
      sl_unfold_run_names
      refine (View.read_writes_eq_canon _ _ _ (scale_covered _ _ _ _ _ _ _ _ _ _ _ _ _ _ _)).trans ?_
      simp only [View.readCov_cons_toLoadRect, View.readAt_eq_ld, harg1.read_unread, harg2.read_unread, harg3.read_unread, harg4.read_unread, harg5.read_unread, harg6.read_unread, harg7.read_unread, harg8.read_unread]
      rfl
    · iexists _; isplitr
      swap; · iexact HS2
      ipureintro
      sl_unfold_run_names
      refine (View.read_writes_eq_canon _ _ _ (View.cover_of_tiled _ S1920x16.size (by rfl))).trans ?_
      rw [View.canon_unit_zero zeros2]
      simp only [View.readCov_cons_toLoadRect, View.readAt_eq_ld, harg1.read_unread, harg2.read_unread, harg3.read_unread, harg4.read_unread, harg5.read_unread, harg6.read_unread, harg7.read_unread, harg8.read_unread]
      unfold dhV
      congr 2
      · exact View.ld_unit_zero zeros2 _ _
      · exact congrArg k0_pay17 (View.ld_unit_zero zeros2 _ _)

end Cert.Kernel.Body

end
-- ==== Proof.Bits.Run.lean ====
/- The kernel's run: what each window and each scratch buffer holds at every grid point, the body's obligation at every
   point (Proof/Bits/BodyFirst.lean, Proof/Bits/BodyLater.lean), and the frame claim. -/
module

public import proofs.«01_k».proof.Proof.Bits.BodyLater
public import proofs.«01_k».proof.Proof.Bits.BodyFirst
public import Idealize.ShloMosaic.Lib.Claim

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid's first point. -/
def t0 : Fin cfg0.N := ⟨0, by decide +kernel⟩

theorem eq_t0 (t : Fin cfg0.N) (h : t.val % 8 = 0) : t = t0 := by
  have ht : t.val < 8 := Nat.lt_of_lt_of_eq t.isLt N_0
  exact Fin.ext (show t.val = 0 by omega)

/-- The scratch buffers after the first point: `dy` in bf16, the token scales, `dh`. -/
def S0 (c : Dev nD) : Vec F S1920x1024 .bf16 := dyV (iblk m c 0 t0)
def S1 (c : Dev nD) : Vec F S1920x128 .f32 := scaleV (iblk m c 1 t0)
def S2 (c : Dev nD) : Vec F S1920x16 .bf16 := dhV (iblk m c 0 t0) (iblk m c 1 t0) (iblk m c 7 t0)
/-- What the first point stores of `db` and of `dh`, transposed. -/
def DB (c : Dev nD) : Vec F S16x1024 .f32 := dbV (iblk m c 0 t0) (iblk m c 1 t0) (iblk m c 2 t0) (iblk m c 3 t0)
def DHT (c : Dev nD) : Vec F S3x16x640 .bf16 := dhtV (iblk m c 0 t0) (iblk m c 1 t0) (iblk m c 7 t0)
/-- The block of `dx` a point stores. -/
def DX (c : Dev nD) (t : Fin cfg0.N) : Vec F S1920x512 .bf16 :=
  dxBlk (iblk m c 4 t) (iblk m c 5 t) (iblk m c 6 t) (S0 m c) (S1 m c) (S2 m c)

/-- What is carried between the points: before the first, the scratch buffers at any contents; from then on at what the
    first point stored. -/
def Inv (c : Dev nD) (n : ℕ) : sProp 𝕄 :=
  if n = 0 then Pipeline.ΦA spec0 c
  else iprop(iprop(owns (c : Thread nD τ) scM0_0 fullShare (S0 m c) ∗ owns (c : Thread nD τ) scM0_1 fullShare (S1 m c) ∗ owns (c : Thread nD τ) scM0_2 fullShare (S2 m c)) ∗ (∃ r, prngReg c r))

theorem Inv_zero (c : Dev nD) : Inv m c 0 = Pipeline.ΦA spec0 c := if_pos rfl
theorem Inv_pos (c : Dev nD) {n : ℕ} (h : n ≠ 0) : Inv m c n
    = iprop(iprop(owns (c : Thread nD τ) scM0_0 fullShare (S0 m c) ∗ owns (c : Thread nD τ) scM0_1 fullShare (S1 m c) ∗ owns (c : Thread nD τ) scM0_2 fullShare (S2 m c)) ∗ (∃ r, prngReg c r)) :=
  if_neg h

/-- Each array as the region finds it, each window's block after each point, and the invariant between the points. -/
def dats : (p : Fin 1) → (c : Dev nD) → Dat τ (Elt F) Unit ℕ (UR sig nD τ) ℕ (cfgs p) c := fun p c => match p with
  | 0 =>
  { A := fun w => V m c (Pipeline.arrRef spec0 w)
    after := fun w t => match w with
      | 0 => iblk m c 0 t
      | 1 => iblk m c 1 t
      | 2 => iblk m c 2 t
      | 3 => iblk m c 3 t
      | 4 => iblk m c 4 t
      | 5 => iblk m c 5 t
      | 6 => iblk m c 6 t
      | 7 => iblk m c 7 t
      | 8 => DX m c t
      | 9 => DB m c
      | 10 => DHT m c
    Φ := fun t => Inv m c t.val
    q := fun _ => fullShare
    owed := fun _ => 0 }

theorem A_eq (c : Dev nD) : ∀ w : Fin cfg0.W, (dats m 0 c).A w = V m c (Pipeline.arrRef spec0 w) := by dsimp only [dats]; exact fun _ => rfl
theorem after0_0 (c : Dev nD) : ∀ t, (dats m 0 c).after 0 t = iblk m c 0 t := by dsimp only [dats]; exact fun _ => rfl
theorem after0_1 (c : Dev nD) : ∀ t, (dats m 0 c).after 1 t = iblk m c 1 t := by dsimp only [dats]; exact fun _ => rfl
theorem after0_2 (c : Dev nD) : ∀ t, (dats m 0 c).after 2 t = iblk m c 2 t := by dsimp only [dats]; exact fun _ => rfl
theorem after0_3 (c : Dev nD) : ∀ t, (dats m 0 c).after 3 t = iblk m c 3 t := by dsimp only [dats]; exact fun _ => rfl
theorem after0_4 (c : Dev nD) : ∀ t, (dats m 0 c).after 4 t = iblk m c 4 t := by dsimp only [dats]; exact fun _ => rfl
theorem after0_5 (c : Dev nD) : ∀ t, (dats m 0 c).after 5 t = iblk m c 5 t := by dsimp only [dats]; exact fun _ => rfl
theorem after0_6 (c : Dev nD) : ∀ t, (dats m 0 c).after 6 t = iblk m c 6 t := by dsimp only [dats]; exact fun _ => rfl
theorem after0_7 (c : Dev nD) : ∀ t, (dats m 0 c).after 7 t = iblk m c 7 t := by dsimp only [dats]; exact fun _ => rfl
theorem after0_8 (c : Dev nD) : ∀ t, (dats m 0 c).after 8 t = DX m c t := by dsimp only [dats]; exact fun _ => rfl
theorem after0_9 (c : Dev nD) : ∀ t, (dats m 0 c).after 9 t = DB m c := by dsimp only [dats]; exact fun _ => rfl
theorem after0_10 (c : Dev nD) : ∀ t, (dats m 0 c).after 10 t = DHT m c := by dsimp only [dats]; exact fun _ => rfl
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d

/-- Window 9 is idle at every point after the first, and only there. -/
theorem idle0_9_pos (t : Fin cfg0.N) (h : ¬ t.val % 8 = 0) : cfg0.idle 9 (grid0.coords t) = true := by
  have hn : ¬ cond0_0 (grid0.coords t) := fun h' => h ((hcond0_0 t).mp h')
  show (!(k0_cond1 (grid0.coords t) == 1#1)) = true
  simpa using hn
theorem live0_9_zero (t : Fin cfg0.N) (h : t.val % 8 = 0) : cfg0.idle 9 (grid0.coords t) = false := by
  have hn : cond0_0 (grid0.coords t) := (hcond0_0 t).mpr h
  show (!(k0_cond1 (grid0.coords t) == 1#1)) = false
  simpa using hn
/-- Its buffer holds what the first point stored at every later point. -/
theorem fresh0_9 : ∀ n, n ≠ 0 → n < 8 → cfg0.fresh 9 n = false := by
  intro n h0 h8
  have h := cfg0.fresh_tab 9 (fun n => decide (n = 0 ∨ n = 8)) rfl (by
    intro t
    have ht : t.val < 8 := Nat.lt_of_lt_of_eq t.isLt N_0
    by_cases hz : t.val % 8 = 0
    · have hf : (cfg0.win 9).flush t = false := by
        rw [Bool.eq_false_iff]; intro hf; have := (flush0_9 t).mp hf; omega
      have hi : cfg0.idle 9 (cfg0.grid.coords t) = false := live0_9_zero t hz
      rw [hf, hi]; simp; omega
    · have hi : cfg0.idle 9 (cfg0.grid.coords t) = true := idle0_9_pos t hz
      by_cases h7 : t.val % 8 = 7
      · rw [(flush0_9 t).mpr h7]; simp; omega
      · have hf : (cfg0.win 9).flush t = false := by
          rw [Bool.eq_false_iff]; intro hf; exact h7 ((flush0_9 t).mp hf)
        rw [hf, hi]; simp only [Bool.false_or, Bool.true_and]; rw [decide_eq_decide]; omega) n (by rw [show cfg0.N = 8 from N_0]; omega)
  rw [h]; simp; omega
theorem before0_9 (c : Dev nD) (t : Fin cfg0.N) (h : ¬ t.val % 8 = 0) (d) : (dats m 0 c).before 9 t d = DB m c := by
  have ht : t.val < 8 := Nat.lt_of_lt_of_eq t.isLt N_0
  rw [Dat.before_out_traj (dats m 0 c) 9 rfl (fun _ _ => rfl) (fun t _ _ _ => by rw [after0_9, after0_9]) t.val t rfl d,
    fresh0_9 t.val (by omega) ht, if_neg Bool.false_ne_true, after0_9]
theorem leaves0_9 (c : Dev nD) (t : Fin cfg0.N) (h : ¬ t.val % 8 = 0) :
    (owns (c : Thread nD τ) (ms0_9 t) fullShare (DB m c) : sProp 𝕄) ⊢ (dats m 0 c).leavesExact 9 t := by
  unfold Dat.leavesExact
  rw [show cfg0.idle 9 (cfg0.grid.coords t) = true from idle0_9_pos t h]
  cases hf : (cfg0.win 9).flush t
  · iintro H
    iexists (DB m c)
    rw [before0_9 m c t h]
    iexact H
  · rw [after0_9]

/-- Window 10 is idle at every point after the first, and only there. -/
theorem idle0_10_pos (t : Fin cfg0.N) (h : ¬ t.val % 8 = 0) : cfg0.idle 10 (grid0.coords t) = true := by
  have hn : ¬ cond0_0 (grid0.coords t) := fun h' => h ((hcond0_0 t).mp h')
  show (!(k0_cond1 (grid0.coords t) == 1#1)) = true
  simpa using hn
theorem live0_10_zero (t : Fin cfg0.N) (h : t.val % 8 = 0) : cfg0.idle 10 (grid0.coords t) = false := by
  have hn : cond0_0 (grid0.coords t) := (hcond0_0 t).mpr h
  show (!(k0_cond1 (grid0.coords t) == 1#1)) = false
  simpa using hn
/-- Its buffer holds what the first point stored at every later point. -/
theorem fresh0_10 : ∀ n, n ≠ 0 → n < 8 → cfg0.fresh 10 n = false := by
  intro n h0 h8
  have h := cfg0.fresh_tab 10 (fun n => decide (n = 0 ∨ n = 8)) rfl (by
    intro t
    have ht : t.val < 8 := Nat.lt_of_lt_of_eq t.isLt N_0
    by_cases hz : t.val % 8 = 0
    · have hf : (cfg0.win 10).flush t = false := by
        rw [Bool.eq_false_iff]; intro hf; have := (flush0_10 t).mp hf; omega
      have hi : cfg0.idle 10 (cfg0.grid.coords t) = false := live0_10_zero t hz
      rw [hf, hi]; simp; omega
    · have hi : cfg0.idle 10 (cfg0.grid.coords t) = true := idle0_10_pos t hz
      by_cases h7 : t.val % 8 = 7
      · rw [(flush0_10 t).mpr h7]; simp; omega
      · have hf : (cfg0.win 10).flush t = false := by
          rw [Bool.eq_false_iff]; intro hf; exact h7 ((flush0_10 t).mp hf)
        rw [hf, hi]; simp only [Bool.false_or, Bool.true_and]; rw [decide_eq_decide]; omega) n (by rw [show cfg0.N = 8 from N_0]; omega)
  rw [h]; simp; omega
theorem before0_10 (c : Dev nD) (t : Fin cfg0.N) (h : ¬ t.val % 8 = 0) (d) : (dats m 0 c).before 10 t d = DHT m c := by
  have ht : t.val < 8 := Nat.lt_of_lt_of_eq t.isLt N_0
  rw [Dat.before_out_traj (dats m 0 c) 10 rfl (fun _ _ => rfl) (fun t _ _ _ => by rw [after0_10, after0_10]) t.val t rfl d,
    fresh0_10 t.val (by omega) ht, if_neg Bool.false_ne_true, after0_10]
theorem leaves0_10 (c : Dev nD) (t : Fin cfg0.N) (h : ¬ t.val % 8 = 0) :
    (owns (c : Thread nD τ) (ms0_10 t) fullShare (DHT m c) : sProp 𝕄) ⊢ (dats m 0 c).leavesExact 10 t := by
  unfold Dat.leavesExact
  rw [show cfg0.idle 10 (cfg0.grid.coords t) = true from idle0_10_pos t h]
  cases hf : (cfg0.win 10).flush t
  · iintro H
    iexists (DHT m c)
    rw [before0_10 m c t h]
    iexact H
  · rw [after0_10]

/-! ## The body's triple at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

theorem Phi_castSucc (c : Dev nD) (t : Fin cfg0.N) : (dats m 0 c).Φ t.castSucc = Inv m c t.val := rfl
theorem Phi_succ (c : Dev nD) (t : Fin cfg0.N) : (dats m 0 c).Φ t.succ
    = iprop(iprop(owns (c : Thread nD τ) scM0_0 fullShare (S0 m c) ∗ owns (c : Thread nD τ) scM0_1 fullShare (S1 m c) ∗ owns (c : Thread nD τ) scM0_2 fullShare (S2 m c)) ∗ (∃ r, prngReg c r)) :=
  Inv_pos m c (Nat.succ_ne_zero t.val)

set_option maxHeartbeats 4000000 in
/-- The body's triple at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl, Phi_castSucc, Phi_succ]
  rw [show (dats m 0 c).leavesExact 0 t = owns (c : Thread nD τ) (ms0_0 t) fullShare ((dats m 0 c).after 0 t) from by
    unfold Dat.leavesExact; rw [show cfg0.idle 0 (cfg0.grid.coords t) = false from rfl], after0_0]
  rw [show (dats m 0 c).leavesExact 1 t = owns (c : Thread nD τ) (ms0_1 t) fullShare ((dats m 0 c).after 1 t) from by
    unfold Dat.leavesExact; rw [show cfg0.idle 1 (cfg0.grid.coords t) = false from rfl], after0_1]
  rw [show (dats m 0 c).leavesExact 2 t = owns (c : Thread nD τ) (ms0_2 t) fullShare ((dats m 0 c).after 2 t) from by
    unfold Dat.leavesExact; rw [show cfg0.idle 2 (cfg0.grid.coords t) = false from rfl], after0_2]
  rw [show (dats m 0 c).leavesExact 3 t = owns (c : Thread nD τ) (ms0_3 t) fullShare ((dats m 0 c).after 3 t) from by
    unfold Dat.leavesExact; rw [show cfg0.idle 3 (cfg0.grid.coords t) = false from rfl], after0_3]
  rw [show (dats m 0 c).leavesExact 4 t = owns (c : Thread nD τ) (ms0_4 t) fullShare ((dats m 0 c).after 4 t) from by
    unfold Dat.leavesExact; rw [show cfg0.idle 4 (cfg0.grid.coords t) = false from rfl], after0_4]
  rw [show (dats m 0 c).leavesExact 5 t = owns (c : Thread nD τ) (ms0_5 t) fullShare ((dats m 0 c).after 5 t) from by
    unfold Dat.leavesExact; rw [show cfg0.idle 5 (cfg0.grid.coords t) = false from rfl], after0_5]
  rw [show (dats m 0 c).leavesExact 6 t = owns (c : Thread nD τ) (ms0_6 t) fullShare ((dats m 0 c).after 6 t) from by
    unfold Dat.leavesExact; rw [show cfg0.idle 6 (cfg0.grid.coords t) = false from rfl], after0_6]
  rw [show (dats m 0 c).leavesExact 7 t = owns (c : Thread nD τ) (ms0_7 t) fullShare ((dats m 0 c).after 7 t) from by
    unfold Dat.leavesExact; rw [show cfg0.idle 7 (cfg0.grid.coords t) = false from rfl], after0_7]
  rw [show (dats m 0 c).leavesExact 8 t = owns (c : Thread nD τ) (ms0_8 t) fullShare ((dats m 0 c).after 8 t) from by
    unfold Dat.leavesExact; rw [show cfg0.idle 8 (cfg0.grid.coords t) = false from rfl], after0_8]
  by_cases h0 : t.val % 8 = 0
  · obtain rfl := eq_t0 t h0
    rw [show (dats m 0 c).leavesExact 9 t0 = owns (c : Thread nD τ) (ms0_9 t0) fullShare ((dats m 0 c).after 9 t0) from by
      unfold Dat.leavesExact; rw [show cfg0.idle 9 (cfg0.grid.coords t0) = false from live0_9_zero t0 h0], after0_9]
    rw [show (dats m 0 c).leavesExact 10 t0 = owns (c : Thread nD τ) (ms0_10 t0) fullShare ((dats m 0 c).after 10 t0) from by
      unfold Dat.leavesExact; rw [show cfg0.idle 10 (cfg0.grid.coords t0) = false from live0_10_zero t0 h0], after0_10]
    rw [show Inv m c t0.val = _ from Inv_zero m c, PhiA0_eq]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((run_first c (grid0.coords t0) _ _ _ _ _ _ _ _ _ _ _ _ _ _ _ _ _ _ _ _ _ _ _ _ _ _ _ _ ((hcond0_0 t0).mpr h0) (iblk m c 0 t0) (iblk m c 1 t0) (iblk m c 2 t0) (iblk m c 3 t0) (iblk m c 4 t0) (iblk m c 5 t0) (iblk m c 6 t0) (iblk m c 7 t0)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    iintro ⟨H0, H1, H2, H3, H4, H5, H6, H7, H8, H9, H10, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · have hz : t.val ≠ 0 := fun h => h0 (by rw [h])
    simp only [before0_9 m c t h0, before0_10 m c t h0]
    rw [Inv_pos m c hz]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((run_later c (grid0.coords t) _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (DB m c) (DHT m c) (S0 m c) (S1 m c) (S2 m c)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexact H10
    isplitl [HS0]; · iexact HS0
    isplitl [HS1]; · iexact HS1
    isplitl [HS2]; · iexact HS2
    iintro ⟨H0, H1, H2, H3, H4, H5, H6, H7, H8, H9, H10, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iapply (leaves0_9 m c t h0); iexact H9
    iapply (leaves0_10 m c t h0); iexact H10

/-! ## The run -/

theorem defs₀_row (t : Fin cfg0.N) : (defs₀ (F := F)) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats (F := F) m 0 c).Φ 0 := by
  rw [show (dats (F := F) m 0 c).Φ 0 = Inv m c 0 from rfl, Inv_zero]

theorem hout (c : Dev nD) : (dats (F := F) m 0 c).Φ (Fin.last cfg0.N) ⊢ Pipeline.ΦA spec0 c := by
  rw [show (dats (F := F) m 0 c).Φ (Fin.last cfg0.N) = Inv m c cfg0.N from rfl,
    Inv_pos m c (show cfg0.N ≠ 0 by rw [show cfg0.N = 8 from N_0]; decide), PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

set_option backward.isDefEq.respectTransparency.types false in
set_option maxHeartbeats 800000 in
/-- The run, every buffer of interest named at its end, and no semaphore left raised. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track cfgs (dats m) (0 : Fin 1) launch0 defs₀ Variants.none m ρ main
    (hbody := fun c => (body_obligation m c).loose) (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := A_eq m) (hin := hin m) (hout := hout m) (Q' := _)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame claim: the run ends with every argument as launched and no semaphore left raised. -/
theorem frame_run : θ_run defs (onTc (τ := τ) (main (F := F))) ⟨m, fun _ => 0, ρ⟩ (fun r =>
    (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7)) ∧ r.2.sem = fun _ => 0) :=
  θ_run_and (frame_of m ρ (dats m) (A_eq m) (run_main m ρ)) ((θ_run defs _ _).mono (fun _ h => h.2) (run_main_quiescent m ρ))

end Cert.Kernel.Body

end
-- ==== Proof.Pure.lean ====
/- The kernel's stored values read at an index, over the extended reals. -/
module

public import proofs.«01_k».proof.Proof.Gen.KernelIdeal
public import proofs.«01_k».proof.Proof.Gen.KernelIdeal.Skeleton
public import Idealize.ShloMosaic.Lib.Pointwise

@[expose] public section

set_option maxRecDepth 16384

noncomputable section

namespace Cert.KernelIdeal.Body

open Idealize.ShloMosaic Idealize.ShloMosaic.TcCoe Idealize.SL.Sem
open Cert.KernelIdeal Cert.KernelIdeal.Gen
open scoped BigOperators

/-- The block of `dx` at a token and a column. The token scale is read from a buffer whose lanes all hold it. -/
theorem pay1_at (w : FVec Ideal S512x1024 .fp8e4m3) (ws : FVec Ideal S1x1024 .f32) (dy : FVec Ideal S1920x1024 .bf16)
    (dh : FVec Ideal S1920x16 .bf16) (a : FVec Ideal S16x512 .bf16) (sc : FVec Ideal S1920x128 .f32) (f : Fin 1920 → EReal)
    (hsc : ∀ (r : Fin 1920) (l : Fin 128), sc (ix2 r l) = f r) (r : Fin 1920) (d : Fin 512) :
    k0_pay1 (F := Ideal) w ws dy dh a sc (ix2 r d)
      = (∑ k : Fin 1024, dy (ix2 r k) * (w (ix2 d k) * ws (ix2 0 k))) * f r + ∑ k : Fin 16, dh (ix2 r k) * a (ix2 k d) := by
  pointwise [k0_pay1, hsc]
  all_goals simp only [hsc, dite_eq_ite, ite_self]

/-- The token scales spread over the lanes. -/
theorem pay2_at (v : FVec Ideal S1x128 .f32) (r l : Fin 128) : k0_pay2 (F := Ideal) v (ix2 r l) = v (ix2 0 r) := by
  pointwise [k0_pay2]

theorem pay17_at (v : FVec Ideal S1920x1024 .fp8e5m2) (i : S1920x1024.Idx) : k0_pay17 (F := Ideal) v i = v i := by
  pointwise [k0_pay17]

theorem pay18_at (r0 r1 r2 : FVec Ideal S1x640 .f32) (b : FVec Ideal S16x1024 .bf16) (dy : FVec Ideal S1920x1024 .bf16)
    (f : Fin 1920 → EReal)
    (h0 : ∀ s : Fin 640, r0 (ix2 0 s) = f ⟨s, by omega⟩) (h1 : ∀ s : Fin 640, r1 (ix2 0 s) = f ⟨640 + s, by omega⟩)
    (h2 : ∀ s : Fin 640, r2 (ix2 0 s) = f ⟨1280 + s, by omega⟩) (k : Fin 16) (t : Fin 1920) :
    k0_pay18 (F := Ideal) r0 r1 r2 b dy (ix2 k t)
      = (∑ o : Fin 1024, b (ix2 k o) * dy (ix2 t o)) * f t * Ideal.ofBits .f32 0x40000000#32 := by
  pointwise [k0_pay18]
  refine congrArg (· * _) (congrArg _ ?_)
  by_cases c0 : (t : ℕ) < 640
  · rw [dif_pos c0, h0]
  · rw [dif_neg c0]
    by_cases c1 : (t : ℕ) - 640 < 640
    · rw [dif_pos c1, h1]; exact congrArg f (Fin.ext (by dsimp only; omega))
    · rw [dif_neg c1, h2]; exact congrArg f (Fin.ext (by dsimp only; omega))

theorem pay24_at (dy : FVec Ideal S1920x1024 .bf16) (sc : FVec Ideal S1920x128 .f32)
    (z0 : FVec Ideal S1x16x640 .fp8e4m3) (r0 : FVec Ideal S1x640 .f32) (z1 : FVec Ideal S1x16x640 .fp8e4m3) (r1 : FVec Ideal S1x640 .f32)
    (z2 : FVec Ideal S1x16x640 .fp8e4m3) (r2 : FVec Ideal S1x640 .f32) (f : Fin 1920 → EReal)
    (hsc : ∀ (r : Fin 1920) (l : Fin 128), sc (ix2 r l) = f r) (k : Fin 16) (o : Fin 1024) :
    k0_pay24 (F := Ideal) dy sc z0 r0 z1 r1 z2 r2 (ix2 k o)
      = Ideal.ofBits .f32 0x40000000#32 *
        ((∑ s : Fin 640, (z0 (ix3 0 k s) * r0 (ix2 0 s)) * (dy (ix2 ⟨s, by omega⟩ o) * f ⟨s, by omega⟩))
          + (∑ s : Fin 640, (z1 (ix3 0 k s) * r1 (ix2 0 s)) * (dy (ix2 ⟨640 + s, by omega⟩ o) * f ⟨640 + s, by omega⟩))
          + ∑ s : Fin 640, (z2 (ix3 0 k s) * r2 (ix2 0 s)) * (dy (ix2 ⟨1280 + s, by omega⟩ o) * f ⟨1280 + s, by omega⟩)) := by
  pointwise [k0_pay24, hsc]
  simp only [hsc, dite_eq_ite, ite_self]
  refine congrArg _ ?_
  rw [Fin.sum_univ_tiles 3 640 rfl, Fin.sum_univ_three]
  refine congrArg₂ (· + ·) (congrArg₂ (· + ·) ?_ ?_) ?_
  all_goals refine Finset.sum_congr rfl fun s _ => ?_
  · have e : (⟨((0 : Fin 3) : ℕ) * 640 + (s : ℕ), by omega⟩ : Fin 1920) = ⟨s, by omega⟩ := Fin.ext (by simp)
    rw [e, dif_pos (show (s : ℕ) < 640 from s.isLt)]
  · have e : (⟨((1 : Fin 3) : ℕ) * 640 + (s : ℕ), by simp; omega⟩ : Fin 1920) = ⟨640 + s, by omega⟩ := Fin.ext (by simp)
    have e' : (⟨640 + (s : ℕ) - 640, by omega⟩ : Fin 640) = s := Fin.ext (by simp)
    rw [e, dif_neg (show ¬ (640 + (s : ℕ) < 640) by omega), dif_pos (show 640 + (s : ℕ) - 640 < 640 by omega), e']
  · have e : (⟨((2 : Fin 3) : ℕ) * 640 + (s : ℕ), by simp; omega⟩ : Fin 1920) = ⟨1280 + s, by omega⟩ := Fin.ext (by simp)
    have e' : (⟨1280 + (s : ℕ) - 640 - 640, by omega⟩ : Fin 640) = s := Fin.ext (by simp; omega)
    rw [e, dif_neg (show ¬ (1280 + (s : ℕ) < 640) by omega), dif_neg (show ¬ (1280 + (s : ℕ) - 640 < 640) by omega), e']

end Cert.KernelIdeal.Body

end
-- ==== Proof.Shared.lean ====
/- What the runs of the kernel's body share: the branch condition over the grid points, where the windows are idle, and
   the memrefs the body is called with. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Pipeline.TableIdle
public import Idealize.ShloMosaic.Lib.Tactic
public import Idealize.ShloMosaic.Lib.WordCmp

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, k0_cond1, e0]
    word_cmp
   : ∀ t : Fin grid0.N, cond0_0 (grid0.coords t) ↔ t.val % 8 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-! ## The memrefs the body is called with -/

/-- Each window's current staging memref at point `t`, spelled as the pipeline passes it (`bodyAt0`), and its wholeness. -/
abbrev ms0_0 (t : Fin cfg0.N) : Memref sig .tc .vmem S1920x1024 .fp8e5m2 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3x640 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3x16x640 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x640 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1024 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S16x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1920x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S16x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S3x16x640 .bf16 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S1920x1024 .bf16 := Memref.whole cc0_scratch0
abbrev scM0_1 : Memref sig .tc .vmem S1920x128 .f32 := Memref.whole cc0_scratch1
abbrev scM0_2 : Memref sig .tc .vmem S1920x16 .bf16 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Body

end
-- ==== Proof.BodyLater.lean ====
/- The kernel's body at a point after the first: it reads the scratch buffers the first point filled and stores the
   point's block of `dx`; the buffers of `db` and `dh` it leaves as it finds them. -/
module

public import proofs.«01_k».proof.Proof.Shared
public import Idealize.ShloMosaic.Lib.Pipeline.Value

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The point's block of `dx`, from the block of `w` (codes and scales), the block of `lora_a` and the scratch buffers
    (`dy` in bf16, the token scales, `dh`). -/
def dxBlk (x4 : Vec F S512x1024 .fp8e4m3) (x5 : Vec F S1x1024 .f32) (x6 : Vec F S16x512 .bf16)
    (s0 : Vec F S1920x1024 .bf16) (s1 : Vec F S1920x128 .f32) (s2 : Vec F S1920x16 .bf16) : Vec F S1920x512 .bf16 :=
  k0_pay1 x4 x5 s0 s2 x6 s1

/-- The offsets of an access to the whole of a rank-2 buffer are all zero. -/
theorem zeros2 : (![0, 0] : Fin 2 → Nat) = fun _ => 0 := by funext a; fin_cases a <;> rfl

set_option maxHeartbeats 1000000 in
/-- The body's run at a point after the first. -/
theorem run_later (c : Dev nD) (i : grid0.Coords) (arg1 : Memref sig .tc .vmem S1920x1024 .fp8e5m2) (harg1 : arg1.IsWhole) (arg2 : Memref sig .tc .vmem S3x640 .f32) (harg2 : arg2.IsWhole) (arg3 : Memref sig .tc .vmem S3x16x640 .fp8e4m3) (harg3 : arg3.IsWhole) (arg4 : Memref sig .tc .vmem S3x640 .f32) (harg4 : arg4.IsWhole) (arg5 : Memref sig .tc .vmem S512x1024 .fp8e4m3) (harg5 : arg5.IsWhole) (arg6 : Memref sig .tc .vmem S1x1024 .f32) (harg6 : arg6.IsWhole) (arg7 : Memref sig .tc .vmem S16x512 .bf16) (harg7 : arg7.IsWhole) (arg8 : Memref sig .tc .vmem S16x1024 .bf16) (harg8 : arg8.IsWhole) (arg9 : Memref sig .tc .vmem S1920x512 .bf16) (harg9 : arg9.IsWhole) (arg10 : Memref sig .tc .vmem S16x1024 .f32) (harg10 : arg10.IsWhole) (arg11 : Memref sig .tc .vmem S3x16x640 .bf16) (harg11 : arg11.IsWhole) (arg12 : Memref sig .tc .vmem S1920x1024 .bf16) (harg12 : arg12.IsWhole) (arg13 : Memref sig .tc .vmem S1920x128 .f32) (harg13 : arg13.IsWhole) (arg14 : Memref sig .tc .vmem S1920x16 .bf16) (harg14 : arg14.IsWhole) (hc0 : ¬cond0_0 i)
    (x0 : Vec F S1920x1024 .fp8e5m2) (x1 : Vec F S3x640 .f32) (x2 : Vec F S3x16x640 .fp8e4m3) (x3 : Vec F S3x640 .f32) (x4 : Vec F S512x1024 .fp8e4m3) (x5 : Vec F S1x1024 .f32) (x6 : Vec F S16x512 .bf16) (x7 : Vec F S16x1024 .bf16)
    (x9 : Vec F S16x1024 .f32) (x10 : Vec F S3x16x640 .bf16) (s0 : Vec F S1920x1024 .bf16) (s1 : Vec F S1920x128 .f32) (s2 : Vec F S1920x16 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare x9 ∗ owns (c : Thread nD τ) arg11 fullShare x10 ∗ owns (c : Thread nD τ) arg12 fullShare s0 ∗ owns (c : Thread nD τ) arg13 fullShare s1 ∗ owns (c : Thread nD τ) arg14 fullShare s2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (dxBlk x4 x5 x6 s0 s1 s2) ∗ owns (c : Thread nD τ) arg10 fullShare x9 ∗ owns (c : Thread nD τ) arg11 fullShare x10 ∗ owns (c : Thread nD τ) arg12 fullShare s0 ∗ owns (c : Thread nD τ) arg13 fullShare s1 ∗ owns (c : Thread nD τ) arg14 fullShare s2) -∗ K ⟨⟩))
          ⊢ wp frame (wpE (defs₀ (F := F)) Variants.none c none) E (cc0_lora_fa_bwd i arg1 harg1 arg2 harg2 arg3 harg3 arg4 harg4 arg5 harg5 arg6 harg6 arg7 harg7 arg8 harg8 arg9 harg9 arg10 harg10 arg11 harg11 arg12 harg12 arg13 harg13 arg14 harg14) K := by
    intro E K
    simp only [cc0_lora_fa_bwd_eq_skeleton]; unfold cc0_lora_fa_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9; obtain rfl := harg11.eq_unread hf10; obtain rfl := harg12.eq_unread hfs0; obtain rfl := harg13.eq_unread hfs1; obtain rfl := harg14.eq_unread hfs2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr
      swap; · iexact H8
      ipureintro
      refine (View.read_writes_eq_canon _ _ _ (View.cover_of_tiled _ S1920x512.size (by rfl))).trans ?_
      rw [View.canon_unit_zero zeros2]
      simp only [View.readAt_eq_ld, harg5.read_unread, harg6.read_unread, harg7.read_unread, harg12.read_unread, harg13.read_unread, harg14.read_unread]
      unfold dxBlk
      congr 1 <;> exact View.ld_unit_zero zeros2 _ _
    isplitl [H9]
    · iexists _; isplitr; · ipureintro; exact harg10.read_unread _
      iexact H9
    isplitl [H10]
    · iexists _; isplitr; · ipureintro; exact harg11.read_unread _
      iexact H10
    isplitl [HS0]
    · iexists _; isplitr; · ipureintro; exact harg12.read_unread _
      iexact HS0
    isplitl [HS1]
    · iexists _; isplitr; · ipureintro; exact harg13.read_unread _
      iexact HS1
    iexists _; isplitr; · ipureintro; exact harg14.read_unread _
    iexact HS2

end Cert.KernelIdeal.Body

end
-- ==== Proof.BodyFirst.lean ====
/- The kernel's body at the first point: it fills the scratch buffers (`dy` in bf16, the token scales, `dh`), stores `db`
   and `dh`, and stores the first block of `dx`. -/
module

public import proofs.«01_k».proof.Proof.BodyLater

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- `dy` in bf16: the first scratch buffer after the first point. -/
def dyV (x0 : Vec F S1920x1024 .fp8e5m2) : Vec F S1920x1024 .bf16 := k0_pay17 x0

/-- The token scales, one row of 128 equal columns per token: the second scratch buffer after the first point, filled by
    fifteen stores of 128 rows (last first). -/
def scaleV (x1 : Vec F S3x640 .f32) : Vec F S1920x128 .f32 :=
  View.canon [
    ⟨Rect.unit (s := S1920x128) ![1792, 0] S128x128.size inb_S1920x128_S128x128_1792_0, k0_pay16 (View.ld x1 (Rect.unit (s := S3x640) ![2, 512] S1x128.size inb_S3x640_S1x128_2_512))⟩,
    ⟨Rect.unit (s := S1920x128) ![1664, 0] S128x128.size inb_S1920x128_S128x128_1664_0, k0_pay15 (View.ld x1 (Rect.unit (s := S3x640) ![2, 384] S1x128.size inb_S3x640_S1x128_2_384))⟩,
    ⟨Rect.unit (s := S1920x128) ![1536, 0] S128x128.size inb_S1920x128_S128x128_1536_0, k0_pay14 (View.ld x1 (Rect.unit (s := S3x640) ![2, 256] S1x128.size inb_S3x640_S1x128_2_256))⟩,
    ⟨Rect.unit (s := S1920x128) ![1408, 0] S128x128.size inb_S1920x128_S128x128_1408_0, k0_pay13 (View.ld x1 (Rect.unit (s := S3x640) ![2, 128] S1x128.size inb_S3x640_S1x128_2_128))⟩,
    ⟨Rect.unit (s := S1920x128) ![1280, 0] S128x128.size inb_S1920x128_S128x128_1280_0, k0_pay12 (View.ld x1 (Rect.unit (s := S3x640) ![2, 0] S1x128.size inb_S3x640_S1x128_2_0))⟩,
    ⟨Rect.unit (s := S1920x128) ![1152, 0] S128x128.size inb_S1920x128_S128x128_1152_0, k0_pay11 (View.ld x1 (Rect.unit (s := S3x640) ![1, 512] S1x128.size inb_S3x640_S1x128_1_512))⟩,
    ⟨Rect.unit (s := S1920x128) ![1024, 0] S128x128.size inb_S1920x128_S128x128_1024_0, k0_pay10 (View.ld x1 (Rect.unit (s := S3x640) ![1, 384] S1x128.size inb_S3x640_S1x128_1_384))⟩,
    ⟨Rect.unit (s := S1920x128) ![896, 0] S128x128.size inb_S1920x128_S128x128_896_0, k0_pay9 (View.ld x1 (Rect.unit (s := S3x640) ![1, 256] S1x128.size inb_S3x640_S1x128_1_256))⟩,
    ⟨Rect.unit (s := S1920x128) ![768, 0] S128x128.size inb_S1920x128_S128x128_768_0, k0_pay8 (View.ld x1 (Rect.unit (s := S3x640) ![1, 128] S1x128.size inb_S3x640_S1x128_1_128))⟩,
    ⟨Rect.unit (s := S1920x128) ![640, 0] S128x128.size inb_S1920x128_S128x128_640_0, k0_pay7 (View.ld x1 (Rect.unit (s := S3x640) ![1, 0] S1x128.size inb_S3x640_S1x128_1_0))⟩,
    ⟨Rect.unit (s := S1920x128) ![512, 0] S128x128.size inb_S1920x128_S128x128_512_0, k0_pay6 (View.ld x1 (Rect.unit (s := S3x640) ![0, 512] S1x128.size inb_S3x640_S1x128_0_512))⟩,
    ⟨Rect.unit (s := S1920x128) ![384, 0] S128x128.size inb_S1920x128_S128x128_384_0, k0_pay5 (View.ld x1 (Rect.unit (s := S3x640) ![0, 384] S1x128.size inb_S3x640_S1x128_0_384))⟩,
    ⟨Rect.unit (s := S1920x128) ![256, 0] S128x128.size inb_S1920x128_S128x128_256_0, k0_pay4 (View.ld x1 (Rect.unit (s := S3x640) ![0, 256] S1x128.size inb_S3x640_S1x128_0_256))⟩,
    ⟨Rect.unit (s := S1920x128) ![128, 0] S128x128.size inb_S1920x128_S128x128_128_0, k0_pay3 (View.ld x1 (Rect.unit (s := S3x640) ![0, 128] S1x128.size inb_S3x640_S1x128_0_128))⟩,
    ⟨Rect.unit (s := S1920x128) ![0, 0] S128x128.size inb_S1920x128_S128x128_0_0, k0_pay2 (View.ld x1 (Rect.unit (s := S3x640) ![0, 0] S1x128.size inb_S3x640_S1x128_0_0))⟩]

/-- `dh` transposed, as stored: one page of the three per store (last first). -/
def dhtV (x0 : Vec F S1920x1024 .fp8e5m2) (x1 : Vec F S3x640 .f32) (x7 : Vec F S16x1024 .bf16) : Vec F S3x16x640 .bf16 :=
  View.canon [
    ⟨Rect.unit (s := S3x16x640) ![2, 0, 0] S1x16x640.size inb_S3x16x640_S1x16x640_2_0_0, k0_pay21 (View.ld x1 (Rect.unit (s := S3x640) ![0, 0] S1x640.size inb_S3x640_S1x640_0_0)) (View.ld x1 (Rect.unit (s := S3x640) ![1, 0] S1x640.size inb_S3x640_S1x640_1_0)) (View.ld x1 (Rect.unit (s := S3x640) ![2, 0] S1x640.size inb_S3x640_S1x640_2_0)) x7 (dyV x0)⟩,
    ⟨Rect.unit (s := S3x16x640) ![1, 0, 0] S1x16x640.size inb_S3x16x640_S1x16x640_1_0_0, k0_pay20 (View.ld x1 (Rect.unit (s := S3x640) ![0, 0] S1x640.size inb_S3x640_S1x640_0_0)) (View.ld x1 (Rect.unit (s := S3x640) ![1, 0] S1x640.size inb_S3x640_S1x640_1_0)) (View.ld x1 (Rect.unit (s := S3x640) ![2, 0] S1x640.size inb_S3x640_S1x640_2_0)) x7 (dyV x0)⟩,
    ⟨Rect.unit (s := S3x16x640) ![0, 0, 0] S1x16x640.size inb_S3x16x640_S1x16x640_0_0_0, k0_pay19 (View.ld x1 (Rect.unit (s := S3x640) ![0, 0] S1x640.size inb_S3x640_S1x640_0_0)) (View.ld x1 (Rect.unit (s := S3x640) ![1, 0] S1x640.size inb_S3x640_S1x640_1_0)) (View.ld x1 (Rect.unit (s := S3x640) ![2, 0] S1x640.size inb_S3x640_S1x640_2_0)) x7 (dyV x0)⟩]

/-- `dh`, one row per token: the third scratch buffer after the first point. -/
def dhV (x0 : Vec F S1920x1024 .fp8e5m2) (x1 : Vec F S3x640 .f32) (x7 : Vec F S16x1024 .bf16) : Vec F S1920x16 .bf16 :=
  k0_pay23 (k0_pay22 (View.ld x1 (Rect.unit (s := S3x640) ![0, 0] S1x640.size inb_S3x640_S1x640_0_0)) (View.ld x1 (Rect.unit (s := S3x640) ![1, 0] S1x640.size inb_S3x640_S1x640_1_0)) (View.ld x1 (Rect.unit (s := S3x640) ![2, 0] S1x640.size inb_S3x640_S1x640_2_0)) x7 (dyV x0))

/-- `db`. -/
def dbV (x0 : Vec F S1920x1024 .fp8e5m2) (x1 : Vec F S3x640 .f32) (x2 : Vec F S3x16x640 .fp8e4m3) (x3 : Vec F S3x640 .f32) : Vec F S16x1024 .f32 :=
  k0_pay24 (dyV x0) (scaleV x1) (View.ld x2 (Rect.unit (s := S3x16x640) ![0, 0, 0] S1x16x640.size inb_S3x16x640_S1x16x640_0_0_0)) (View.ld x3 (Rect.unit (s := S3x640) ![0, 0] S1x640.size inb_S3x640_S1x640_0_0)) (View.ld x2 (Rect.unit (s := S3x16x640) ![1, 0, 0] S1x16x640.size inb_S3x16x640_S1x16x640_1_0_0)) (View.ld x3 (Rect.unit (s := S3x640) ![1, 0] S1x640.size inb_S3x640_S1x640_1_0)) (View.ld x2 (Rect.unit (s := S3x16x640) ![2, 0, 0] S1x16x640.size inb_S3x16x640_S1x16x640_2_0_0)) (View.ld x3 (Rect.unit (s := S3x640) ![2, 0] S1x640.size inb_S3x640_S1x640_2_0))

/-- The fifteen stores cover the scale buffer. -/
theorem scale_covered (p0 : Vec F S128x128 .f32) (p1 : Vec F S128x128 .f32) (p2 : Vec F S128x128 .f32) (p3 : Vec F S128x128 .f32) (p4 : Vec F S128x128 .f32) (p5 : Vec F S128x128 .f32) (p6 : Vec F S128x128 .f32) (p7 : Vec F S128x128 .f32) (p8 : Vec F S128x128 .f32) (p9 : Vec F S128x128 .f32) (p10 : Vec F S128x128 .f32) (p11 : Vec F S128x128 .f32) (p12 : Vec F S128x128 .f32) (p13 : Vec F S128x128 .f32) (p14 : Vec F S128x128 .f32) (y : S1920x128.Idx) :
    ∃ pc ∈ ([
    ⟨Rect.unit (s := S1920x128) ![1792, 0] S128x128.size inb_S1920x128_S128x128_1792_0, p14⟩,
    ⟨Rect.unit (s := S1920x128) ![1664, 0] S128x128.size inb_S1920x128_S128x128_1664_0, p13⟩,
    ⟨Rect.unit (s := S1920x128) ![1536, 0] S128x128.size inb_S1920x128_S128x128_1536_0, p12⟩,
    ⟨Rect.unit (s := S1920x128) ![1408, 0] S128x128.size inb_S1920x128_S128x128_1408_0, p11⟩,
    ⟨Rect.unit (s := S1920x128) ![1280, 0] S128x128.size inb_S1920x128_S128x128_1280_0, p10⟩,
    ⟨Rect.unit (s := S1920x128) ![1152, 0] S128x128.size inb_S1920x128_S128x128_1152_0, p9⟩,
    ⟨Rect.unit (s := S1920x128) ![1024, 0] S128x128.size inb_S1920x128_S128x128_1024_0, p8⟩,
    ⟨Rect.unit (s := S1920x128) ![896, 0] S128x128.size inb_S1920x128_S128x128_896_0, p7⟩,
    ⟨Rect.unit (s := S1920x128) ![768, 0] S128x128.size inb_S1920x128_S128x128_768_0, p6⟩,
    ⟨Rect.unit (s := S1920x128) ![640, 0] S128x128.size inb_S1920x128_S128x128_640_0, p5⟩,
    ⟨Rect.unit (s := S1920x128) ![512, 0] S128x128.size inb_S1920x128_S128x128_512_0, p4⟩,
    ⟨Rect.unit (s := S1920x128) ![384, 0] S128x128.size inb_S1920x128_S128x128_384_0, p3⟩,
    ⟨Rect.unit (s := S1920x128) ![256, 0] S128x128.size inb_S1920x128_S128x128_256_0, p2⟩,
    ⟨Rect.unit (s := S1920x128) ![128, 0] S128x128.size inb_S1920x128_S128x128_128_0, p1⟩,
    ⟨Rect.unit (s := S1920x128) ![0, 0] S128x128.size inb_S1920x128_S128x128_0_0, p0⟩] : List (View.Piece (Elt F) S1920x128 .f32)), y ∈ pc.1.set :=
  View.cover_of_tiled (s := S1920x128) _ S128x128.size (by rfl) y

/-- The three stores cover the `dh` buffer. -/
theorem dht_covered (p0 p1 p2 : Vec F S1x16x640 .bf16) (y : S3x16x640.Idx) :
    ∃ pc ∈ ([
    ⟨Rect.unit (s := S3x16x640) ![2, 0, 0] S1x16x640.size inb_S3x16x640_S1x16x640_2_0_0, p2⟩,
    ⟨Rect.unit (s := S3x16x640) ![1, 0, 0] S1x16x640.size inb_S3x16x640_S1x16x640_1_0_0, p1⟩,
    ⟨Rect.unit (s := S3x16x640) ![0, 0, 0] S1x16x640.size inb_S3x16x640_S1x16x640_0_0_0, p0⟩] : List (View.Piece (Elt F) S3x16x640 .bf16)), y ∈ pc.1.set :=
  View.cover_of_tiled (s := S3x16x640) _ S1x16x640.size (by rfl) y

set_option maxHeartbeats 4000000 in
/-- The body's run at the first point. -/
theorem run_first (c : Dev nD) (i : grid0.Coords) (arg1 : Memref sig .tc .vmem S1920x1024 .fp8e5m2) (harg1 : arg1.IsWhole) (arg2 : Memref sig .tc .vmem S3x640 .f32) (harg2 : arg2.IsWhole) (arg3 : Memref sig .tc .vmem S3x16x640 .fp8e4m3) (harg3 : arg3.IsWhole) (arg4 : Memref sig .tc .vmem S3x640 .f32) (harg4 : arg4.IsWhole) (arg5 : Memref sig .tc .vmem S512x1024 .fp8e4m3) (harg5 : arg5.IsWhole) (arg6 : Memref sig .tc .vmem S1x1024 .f32) (harg6 : arg6.IsWhole) (arg7 : Memref sig .tc .vmem S16x512 .bf16) (harg7 : arg7.IsWhole) (arg8 : Memref sig .tc .vmem S16x1024 .bf16) (harg8 : arg8.IsWhole) (arg9 : Memref sig .tc .vmem S1920x512 .bf16) (harg9 : arg9.IsWhole) (arg10 : Memref sig .tc .vmem S16x1024 .f32) (harg10 : arg10.IsWhole) (arg11 : Memref sig .tc .vmem S3x16x640 .bf16) (harg11 : arg11.IsWhole) (arg12 : Memref sig .tc .vmem S1920x1024 .bf16) (harg12 : arg12.IsWhole) (arg13 : Memref sig .tc .vmem S1920x128 .f32) (harg13 : arg13.IsWhole) (arg14 : Memref sig .tc .vmem S1920x16 .bf16) (harg14 : arg14.IsWhole) (hc0 : cond0_0 i)
    (x0 : Vec F S1920x1024 .fp8e5m2) (x1 : Vec F S3x640 .f32) (x2 : Vec F S3x16x640 .fp8e4m3) (x3 : Vec F S3x640 .f32) (x4 : Vec F S512x1024 .fp8e4m3) (x5 : Vec F S1x1024 .f32) (x6 : Vec F S16x512 .bf16) (x7 : Vec F S16x1024 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (dxBlk x4 x5 x6 (dyV x0) (scaleV x1) (dhV x0 x1 x7)) ∗ owns (c : Thread nD τ) arg10 fullShare (dbV x0 x1 x2 x3) ∗ owns (c : Thread nD τ) arg11 fullShare (dhtV x0 x1 x7) ∗ owns (c : Thread nD τ) arg12 fullShare (dyV x0) ∗ owns (c : Thread nD τ) arg13 fullShare (scaleV x1) ∗ owns (c : Thread nD τ) arg14 fullShare (dhV x0 x1 x7)) -∗ K ⟨⟩))
          ⊢ wp frame (wpE (defs₀ (F := F)) Variants.none c none) E (cc0_lora_fa_bwd i arg1 harg1 arg2 harg2 arg3 harg3 arg4 harg4 arg5 harg5 arg6 harg6 arg7 harg7 arg8 harg8 arg9 harg9 arg10 harg10 arg11 harg11 arg12 harg12 arg13 harg13 arg14 harg14) K := by
    intro E K
    simp only [cc0_lora_fa_bwd_eq_skeleton]; unfold cc0_lora_fa_bwd_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr
      swap; · iexact H8
      ipureintro
      sl_unfold_run_names
      refine (View.read_writes_eq_canon _ _ _ (View.cover_of_tiled _ S1920x512.size (by rfl))).trans ?_
      rw [View.canon_unit_zero zeros2]
      simp only [View.readCov_cons_toLoadRect, View.readAt_eq_ld, harg1.read_unread, harg2.read_unread, harg3.read_unread, harg4.read_unread, harg5.read_unread, harg6.read_unread, harg7.read_unread, harg8.read_unread]
      unfold dxBlk
      congr 1
      · exact View.ld_unit_zero zeros2 _ _
      · exact View.ld_unit_zero zeros2 _ _
      · exact congrArg k0_pay17 (View.ld_unit_zero zeros2 _ _)
      · unfold dhV
        congr 2
        · exact View.ld_unit_zero zeros2 _ _
        · exact congrArg k0_pay17 (View.ld_unit_zero zeros2 _ _)
      · exact View.ld_unit_zero zeros2 _ _
      · exact (View.readCov_eq_canon_ld _ _ _ (scale_covered _ _ _ _ _ _ _ _ _ _ _ _ _ _ _)).trans (View.ld_unit_zero zeros2 _ _)
    isplitl [H9]
    · iexists _; isplitr
      swap; · iexact H9
      ipureintro
      sl_unfold_run_names
      refine (View.read_writes_eq_canon _ _ _ (View.cover_of_tiled _ S16x1024.size (by rfl))).trans ?_
      rw [View.canon_unit_zero zeros2]
      simp only [View.readCov_cons_toLoadRect, View.readAt_eq_ld, harg1.read_unread, harg2.read_unread, harg3.read_unread, harg4.read_unread, harg5.read_unread, harg6.read_unread, harg7.read_unread, harg8.read_unread]
      unfold dbV
      congr 1
      · exact congrArg k0_pay17 (View.ld_unit_zero zeros2 _ _)
      · exact (View.readCov_eq_canon_ld _ _ _ (scale_covered _ _ _ _ _ _ _ _ _ _ _ _ _ _ _)).trans (View.ld_unit_zero zeros2 _ _)
    isplitl [H10]
    · iexists _; isplitr
      swap; · iexact H10
      ipureintro
      sl_unfold_run_names
      refine (View.read_writes_eq_canon _ _ _ (dht_covered _ _ _)).trans ?_
      simp only [View.readCov_cons_toLoadRect, View.readAt_eq_ld, harg1.read_unread, harg2.read_unread, harg3.read_unread, harg4.read_unread, harg5.read_unread, harg6.read_unread, harg7.read_unread, harg8.read_unread]
      unfold dhtV
      rw [show View.ld x7 (Rect.unit ![0, 0] ![16, 1024] inb_S16x1024_S16x1024_0_0) = x7 from View.ld_unit_zero zeros2 _ _, show View.ld x0 (Rect.unit ![0, 0] ![1920, 1024] inb_S1920x1024_S1920x1024_0_0) = x0 from View.ld_unit_zero zeros2 _ _]
      rfl
    isplitl [HS0]
    · iexists _; isplitr
      swap; · iexact HS0
      ipureintro
      sl_unfold_run_names
      refine (View.read_writes_eq_canon _ _ _ (View.cover_of_tiled _ S1920x1024.size (by rfl))).trans ?_
      rw [View.canon_unit_zero zeros2]
      simp only [View.readCov_cons_toLoadRect, View.readAt_eq_ld, harg1.read_unread, harg2.read_unread, harg3.read_unread, harg4.read_unread, harg5.read_unread, harg6.read_unread, harg7.read_unread, harg8.read_unread]
      exact congrArg k0_pay17 (View.ld_unit_zero zeros2 _ _)
    isplitl [HS1]
    · iexists _; isplitr
      swap; · iexact HS1
      ipureintro
      sl_unfold_run_names
      refine (View.read_writes_eq_canon _ _ _ (scale_covered _ _ _ _ _ _ _ _ _ _ _ _ _ _ _)).trans ?_
      simp only [View.readCov_cons_toLoadRect, View.readAt_eq_ld, harg1.read_unread, harg2.read_unread, harg3.read_unread, harg4.read_unread, harg5.read_unread, harg6.read_unread, harg7.read_unread, harg8.read_unread]
      rfl
    · iexists _; isplitr
      swap; · iexact HS2
      ipureintro
      sl_unfold_run_names
      refine (View.read_writes_eq_canon _ _ _ (View.cover_of_tiled _ S1920x16.size (by rfl))).trans ?_
      rw [View.canon_unit_zero zeros2]
      simp only [View.readCov_cons_toLoadRect, View.readAt_eq_ld, harg1.read_unread, harg2.read_unread, harg3.read_unread, harg4.read_unread, harg5.read_unread, harg6.read_unread, harg7.read_unread, harg8.read_unread]
      unfold dhV
      congr 2
      · exact View.ld_unit_zero zeros2 _ _
      · exact congrArg k0_pay17 (View.ld_unit_zero zeros2 _ _)

end Cert.KernelIdeal.Body

end
-- ==== Proof.Pieces.lean ====
/- What the first point leaves in each buffer read at an index, over the extended reals. -/
module

public import proofs.«01_k».proof.Proof.Pure
public import proofs.«01_k».proof.Proof.BodyFirst
public import Idealize.ShloMosaic.Lib.Pipeline.ValueKit

@[expose] public section

set_option maxRecDepth 16384

noncomputable section

namespace Cert.KernelIdeal.Body

open Idealize.ShloMosaic Idealize.ShloMosaic.TcCoe Idealize.SL.Sem
open Cert.KernelIdeal Cert.KernelIdeal.Gen
open scoped BigOperators

set_option maxHeartbeats 4000000 in
theorem scaleV_at (x1 : FVec Ideal S3x640 .f32) (r : Fin 1920) (l : Fin 128) :
    scaleV (F := Ideal) x1 (ix2 r l) = x1 (ix2 ⟨r / 640, by omega⟩ ⟨r % 640, by omega⟩) := by
  unfold scaleV
  canon_tiles x h
  all_goals
    have hr : (r : ℕ) = _ := h0
    pointwise [k0_pay2, k0_pay3, k0_pay4, k0_pay5, k0_pay6, k0_pay7, k0_pay8, k0_pay9, k0_pay10, k0_pay11, k0_pay12, k0_pay13, k0_pay14, k0_pay15, k0_pay16]
    refine congrArg x1 ((ix2_inj ..).2 ⟨Fin.ext ?_, Fin.ext ?_⟩)
    all_goals
      try dsimp only
      first
        | omega
        | (simp; omega)

/-- The rows of a table of scales and the pages of `z` the body loads whole. -/
abbrev row0 (x : Vec Ideal S3x640 .f32) : FVec Ideal S1x640 .f32 := View.ld x (Rect.unit (s := S3x640) ![0, 0] S1x640.size inb_S3x640_S1x640_0_0)
abbrev page0 (x : Vec Ideal S3x16x640 .fp8e4m3) : FVec Ideal S1x16x640 .fp8e4m3 := View.ld x (Rect.unit (s := S3x16x640) ![0, 0, 0] S1x16x640.size inb_S3x16x640_S1x16x640_0_0_0)
abbrev row1 (x : Vec Ideal S3x640 .f32) : FVec Ideal S1x640 .f32 := View.ld x (Rect.unit (s := S3x640) ![1, 0] S1x640.size inb_S3x640_S1x640_1_0)
abbrev page1 (x : Vec Ideal S3x16x640 .fp8e4m3) : FVec Ideal S1x16x640 .fp8e4m3 := View.ld x (Rect.unit (s := S3x16x640) ![1, 0, 0] S1x16x640.size inb_S3x16x640_S1x16x640_1_0_0)
abbrev row2 (x : Vec Ideal S3x640 .f32) : FVec Ideal S1x640 .f32 := View.ld x (Rect.unit (s := S3x640) ![2, 0] S1x640.size inb_S3x640_S1x640_2_0)
abbrev page2 (x : Vec Ideal S3x16x640 .fp8e4m3) : FVec Ideal S1x16x640 .fp8e4m3 := View.ld x (Rect.unit (s := S3x16x640) ![2, 0, 0] S1x16x640.size inb_S3x16x640_S1x16x640_2_0_0)
theorem row0_at (x : FVec Ideal S3x640 .f32) (s : Fin 640) : row0 x (ix2 0 s) = x (ix2 0 s) := by unfold row0; pointwise
theorem page0_at (x : FVec Ideal S3x16x640 .fp8e4m3) (k : Fin 16) (s : Fin 640) : page0 x (ix3 0 k s) = x (ix3 0 k s) := by unfold page0; pointwise
theorem row1_at (x : FVec Ideal S3x640 .f32) (s : Fin 640) : row1 x (ix2 0 s) = x (ix2 1 s) := by unfold row1; pointwise
theorem page1_at (x : FVec Ideal S3x16x640 .fp8e4m3) (k : Fin 16) (s : Fin 640) : page1 x (ix3 0 k s) = x (ix3 1 k s) := by unfold page1; pointwise
theorem row2_at (x : FVec Ideal S3x640 .f32) (s : Fin 640) : row2 x (ix2 0 s) = x (ix2 2 s) := by unfold row2; pointwise
theorem page2_at (x : FVec Ideal S3x16x640 .fp8e4m3) (k : Fin 16) (s : Fin 640) : page2 x (ix3 0 k s) = x (ix3 2 k s) := by unfold page2; pointwise

/-- A token's scale. -/
def tok (x1 : FVec Ideal S3x640 .f32) (r : Fin 1920) : EReal := x1 (ix2 ⟨r / 640, by omega⟩ ⟨r % 640, by omega⟩)

/-- `dh`, transposed, at a column and a token. -/
theorem dh18_at (x0 : FVec Ideal S1920x1024 .fp8e5m2) (x1 : FVec Ideal S3x640 .f32) (x7 : FVec Ideal S16x1024 .bf16) (k : Fin 16) (t : Fin 1920) :
    k0_pay18 (F := Ideal) (row0 x1) (row1 x1) (row2 x1) x7 (dyV x0) (ix2 k t)
      = (∑ o : Fin 1024, x7 (ix2 k o) * x0 (ix2 t o)) * tok x1 t * Ideal.ofBits .f32 0x40000000#32 := by
  rw [pay18_at _ _ _ _ _ (tok x1) (fun s => (row0_at x1 s).trans ?_) (fun s => (row1_at x1 s).trans ?_) (fun s => (row2_at x1 s).trans ?_)]
  · refine congrArg (· * _) (congrArg (· * _) (Finset.sum_congr rfl fun o _ => congrArg _ (pay17_at x0 _)))
  all_goals
    unfold tok
    refine congrArg x1 ((ix2_inj ..).2 ⟨Fin.ext ?_, Fin.ext ?_⟩) <;> (simp; try omega)

/-- `dh` at a token and a column. -/
theorem dhV_at (x0 : FVec Ideal S1920x1024 .fp8e5m2) (x1 : FVec Ideal S3x640 .f32) (x7 : FVec Ideal S16x1024 .bf16) (t : Fin 1920) (k : Fin 16) :
    dhV (F := Ideal) x0 x1 x7 (ix2 t k)
      = (∑ o : Fin 1024, x7 (ix2 k o) * x0 (ix2 t o)) * tok x1 t * Ideal.ofBits .f32 0x40000000#32 := by
  refine Eq.trans ?_ (dh18_at x0 x1 x7 k t)
  unfold dhV
  pointwise [k0_pay23, k0_pay22]

set_option maxHeartbeats 1000000 in
/-- `dh`, transposed, at a batch, a column and a position. -/
theorem dhtV_at (x0 : FVec Ideal S1920x1024 .fp8e5m2) (x1 : FVec Ideal S3x640 .f32) (x7 : FVec Ideal S16x1024 .bf16) (b : Fin 3) (k : Fin 16) (s : Fin 640) :
    dhtV (F := Ideal) x0 x1 x7 (ix3 b k s)
      = (∑ o : Fin 1024, x7 (ix2 k o) * x0 (ix2 ⟨640 * b + s, by omega⟩ o)) * x1 (ix2 b s) * Ideal.ofBits .f32 0x40000000#32 := by
  have e : tok x1 ⟨640 * b + s, by omega⟩ = x1 (ix2 b s) := by
    unfold tok
    refine congrArg x1 ((ix2_inj ..).2 ⟨Fin.ext ?_, Fin.ext ?_⟩) <;> (simp; try omega)
  rw [← e]
  refine Eq.trans ?_ (dh18_at x0 x1 x7 k ⟨640 * b + s, by omega⟩)
  unfold dhtV
  canon_tiles x h
  all_goals
    have hb : (b : ℕ) = _ := h0
    have hk : (k : ℕ) = _ := h1
    have hs : (s : ℕ) = _ := h2
    pointwise [k0_pay19, k0_pay20, k0_pay21]
    refine congrArg _ ((ix2_inj ..).2 ⟨Fin.ext ?_, Fin.ext ?_⟩) <;> (simp; try omega)

set_option maxHeartbeats 1000000 in
/-- `db` at a row and a column: the sum over the batches and their tokens. -/
theorem dbV_at (x0 : FVec Ideal S1920x1024 .fp8e5m2) (x1 : FVec Ideal S3x640 .f32) (x2 : FVec Ideal S3x16x640 .fp8e4m3) (x3 : FVec Ideal S3x640 .f32) (k : Fin 16) (o : Fin 1024) :
    dbV (F := Ideal) x0 x1 x2 x3 (ix2 k o)
      = Ideal.ofBits .f32 0x40000000#32 * ∑ b : Fin 3, ∑ s : Fin 640,
          (x2 (ix3 b k s) * x3 (ix2 b s)) * (x0 (ix2 ⟨640 * b + s, by omega⟩ o) * x1 (ix2 b s)) := by
  unfold dbV
  rw [pay24_at _ _ _ _ _ _ _ _ (tok x1) (scaleV_at x1)]
  refine congrArg _ ?_
  rw [Fin.sum_univ_three]
  refine congrArg₂ (· + ·) (congrArg₂ (· + ·) ?_ ?_) ?_
  all_goals refine Finset.sum_congr rfl fun s _ => congrArg₂ (· * ·) ?_ ?_
  · exact congrArg₂ (· * ·) (page0_at x2 k s) (row0_at x3 s)
  · refine congrArg₂ (· * ·) ((pay17_at x0 _).trans (congrArg x0 ((ix2_inj ..).2 ⟨Fin.ext ?_, rfl⟩))) (congrArg x1 ((ix2_inj ..).2 ⟨Fin.ext ?_, Fin.ext ?_⟩)) <;> (simp; try omega)
  · exact congrArg₂ (· * ·) (page1_at x2 k s) (row1_at x3 s)
  · refine congrArg₂ (· * ·) ((pay17_at x0 _).trans (congrArg x0 ((ix2_inj ..).2 ⟨Fin.ext ?_, rfl⟩))) (congrArg x1 ((ix2_inj ..).2 ⟨Fin.ext ?_, Fin.ext ?_⟩)) <;> (simp; try omega)
  · exact congrArg₂ (· * ·) (page2_at x2 k s) (row2_at x3 s)
  · refine congrArg₂ (· * ·) ((pay17_at x0 _).trans (congrArg x0 ((ix2_inj ..).2 ⟨Fin.ext ?_, rfl⟩))) (congrArg x1 ((ix2_inj ..).2 ⟨Fin.ext ?_, Fin.ext ?_⟩)) <;> (simp; try omega)

/-- A point's block of `dx` at a token and a column. -/
theorem dxBlk_at (x0 : FVec Ideal S1920x1024 .fp8e5m2) (x1 : FVec Ideal S3x640 .f32) (x7 : FVec Ideal S16x1024 .bf16)
    (x4 : FVec Ideal S512x1024 .fp8e4m3) (x5 : FVec Ideal S1x1024 .f32) (x6 : FVec Ideal S16x512 .bf16) (t : Fin 1920) (d : Fin 512) :
    dxBlk (F := Ideal) x4 x5 x6 (dyV x0) (scaleV x1) (dhV x0 x1 x7) (ix2 t d)
      = (∑ k : Fin 1024, x0 (ix2 t k) * (x4 (ix2 d k) * x5 (ix2 0 k))) * tok x1 t
        + ∑ k : Fin 16, ((∑ o : Fin 1024, x7 (ix2 k o) * x0 (ix2 t o)) * tok x1 t * Ideal.ofBits .f32 0x40000000#32) * x6 (ix2 k d) := by
  unfold dxBlk
  rw [pay1_at _ _ _ _ _ _ (tok x1) (scaleV_at x1)]
  refine congrArg₂ (· + ·) (congrArg (· * _) (Finset.sum_congr rfl fun o _ => congrArg (· * _) (pay17_at x0 _)))
    (Finset.sum_congr rfl fun k _ => congrArg (· * _) (dhV_at x0 x1 x7 t k))

end Cert.KernelIdeal.Body

end
-- ==== Proof.Run.lean ====
/- The kernel's run: what each window and each scratch buffer holds at every grid point, the body's obligation at every
   point (Proof/BodyFirst.lean, Proof/BodyLater.lean), and the frame claim. -/
module

public import proofs.«01_k».proof.Proof.BodyLater
public import proofs.«01_k».proof.Proof.BodyFirst
public import Idealize.ShloMosaic.Lib.Claim

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid's first point. -/
def t0 : Fin cfg0.N := ⟨0, by decide +kernel⟩

theorem eq_t0 (t : Fin cfg0.N) (h : t.val % 8 = 0) : t = t0 := by
  have ht : t.val < 8 := Nat.lt_of_lt_of_eq t.isLt N_0
  exact Fin.ext (show t.val = 0 by omega)

/-- The scratch buffers after the first point: `dy` in bf16, the token scales, `dh`. -/
def S0 (c : Dev nD) : Vec F S1920x1024 .bf16 := dyV (iblk m c 0 t0)
def S1 (c : Dev nD) : Vec F S1920x128 .f32 := scaleV (iblk m c 1 t0)
def S2 (c : Dev nD) : Vec F S1920x16 .bf16 := dhV (iblk m c 0 t0) (iblk m c 1 t0) (iblk m c 7 t0)
/-- What the first point stores of `db` and of `dh`, transposed. -/
def DB (c : Dev nD) : Vec F S16x1024 .f32 := dbV (iblk m c 0 t0) (iblk m c 1 t0) (iblk m c 2 t0) (iblk m c 3 t0)
def DHT (c : Dev nD) : Vec F S3x16x640 .bf16 := dhtV (iblk m c 0 t0) (iblk m c 1 t0) (iblk m c 7 t0)
/-- The block of `dx` a point stores. -/
def DX (c : Dev nD) (t : Fin cfg0.N) : Vec F S1920x512 .bf16 :=
  dxBlk (iblk m c 4 t) (iblk m c 5 t) (iblk m c 6 t) (S0 m c) (S1 m c) (S2 m c)

/-- What is carried between the points: before the first, the scratch buffers at any contents; from then on at what the
    first point stored. -/
def Inv (c : Dev nD) (n : ℕ) : sProp 𝕄 :=
  if n = 0 then Pipeline.ΦA spec0 c
  else iprop(iprop(owns (c : Thread nD τ) scM0_0 fullShare (S0 m c) ∗ owns (c : Thread nD τ) scM0_1 fullShare (S1 m c) ∗ owns (c : Thread nD τ) scM0_2 fullShare (S2 m c)) ∗ (∃ r, prngReg c r))

theorem Inv_zero (c : Dev nD) : Inv m c 0 = Pipeline.ΦA spec0 c := if_pos rfl
theorem Inv_pos (c : Dev nD) {n : ℕ} (h : n ≠ 0) : Inv m c n
    = iprop(iprop(owns (c : Thread nD τ) scM0_0 fullShare (S0 m c) ∗ owns (c : Thread nD τ) scM0_1 fullShare (S1 m c) ∗ owns (c : Thread nD τ) scM0_2 fullShare (S2 m c)) ∗ (∃ r, prngReg c r)) :=
  if_neg h

/-- Each array as the region finds it, each window's block after each point, and the invariant between the points. -/
def dats : (p : Fin 1) → (c : Dev nD) → Dat τ (Elt F) Unit ℕ (UR sig nD τ) ℕ (cfgs p) c := fun p c => match p with
  | 0 =>
  { A := fun w => V m c (Pipeline.arrRef spec0 w)
    after := fun w t => match w with
      | 0 => iblk m c 0 t
      | 1 => iblk m c 1 t
      | 2 => iblk m c 2 t
      | 3 => iblk m c 3 t
      | 4 => iblk m c 4 t
      | 5 => iblk m c 5 t
      | 6 => iblk m c 6 t
      | 7 => iblk m c 7 t
      | 8 => DX m c t
      | 9 => DB m c
      | 10 => DHT m c
    Φ := fun t => Inv m c t.val
    q := fun _ => fullShare
    owed := fun _ => 0 }

theorem A_eq (c : Dev nD) : ∀ w : Fin cfg0.W, (dats m 0 c).A w = V m c (Pipeline.arrRef spec0 w) := by dsimp only [dats]; exact fun _ => rfl
theorem after0_0 (c : Dev nD) : ∀ t, (dats m 0 c).after 0 t = iblk m c 0 t := by dsimp only [dats]; exact fun _ => rfl
theorem after0_1 (c : Dev nD) : ∀ t, (dats m 0 c).after 1 t = iblk m c 1 t := by dsimp only [dats]; exact fun _ => rfl
theorem after0_2 (c : Dev nD) : ∀ t, (dats m 0 c).after 2 t = iblk m c 2 t := by dsimp only [dats]; exact fun _ => rfl
theorem after0_3 (c : Dev nD) : ∀ t, (dats m 0 c).after 3 t = iblk m c 3 t := by dsimp only [dats]; exact fun _ => rfl
theorem after0_4 (c : Dev nD) : ∀ t, (dats m 0 c).after 4 t = iblk m c 4 t := by dsimp only [dats]; exact fun _ => rfl
theorem after0_5 (c : Dev nD) : ∀ t, (dats m 0 c).after 5 t = iblk m c 5 t := by dsimp only [dats]; exact fun _ => rfl
theorem after0_6 (c : Dev nD) : ∀ t, (dats m 0 c).after 6 t = iblk m c 6 t := by dsimp only [dats]; exact fun _ => rfl
theorem after0_7 (c : Dev nD) : ∀ t, (dats m 0 c).after 7 t = iblk m c 7 t := by dsimp only [dats]; exact fun _ => rfl
theorem after0_8 (c : Dev nD) : ∀ t, (dats m 0 c).after 8 t = DX m c t := by dsimp only [dats]; exact fun _ => rfl
theorem after0_9 (c : Dev nD) : ∀ t, (dats m 0 c).after 9 t = DB m c := by dsimp only [dats]; exact fun _ => rfl
theorem after0_10 (c : Dev nD) : ∀ t, (dats m 0 c).after 10 t = DHT m c := by dsimp only [dats]; exact fun _ => rfl
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d

/-- Window 9 is idle at every point after the first, and only there. -/
theorem idle0_9_pos (t : Fin cfg0.N) (h : ¬ t.val % 8 = 0) : cfg0.idle 9 (grid0.coords t) = true := by
  have hn : ¬ cond0_0 (grid0.coords t) := fun h' => h ((hcond0_0 t).mp h')
  show (!(k0_cond1 (grid0.coords t) == 1#1)) = true
  simpa using hn
theorem live0_9_zero (t : Fin cfg0.N) (h : t.val % 8 = 0) : cfg0.idle 9 (grid0.coords t) = false := by
  have hn : cond0_0 (grid0.coords t) := (hcond0_0 t).mpr h
  show (!(k0_cond1 (grid0.coords t) == 1#1)) = false
  simpa using hn
/-- Its buffer holds what the first point stored at every later point. -/
theorem fresh0_9 : ∀ n, n ≠ 0 → n < 8 → cfg0.fresh 9 n = false := by
  intro n h0 h8
  have h := cfg0.fresh_tab 9 (fun n => decide (n = 0 ∨ n = 8)) rfl (by
    intro t
    have ht : t.val < 8 := Nat.lt_of_lt_of_eq t.isLt N_0
    by_cases hz : t.val % 8 = 0
    · have hf : (cfg0.win 9).flush t = false := by
        rw [Bool.eq_false_iff]; intro hf; have := (flush0_9 t).mp hf; omega
      have hi : cfg0.idle 9 (cfg0.grid.coords t) = false := live0_9_zero t hz
      rw [hf, hi]; simp; omega
    · have hi : cfg0.idle 9 (cfg0.grid.coords t) = true := idle0_9_pos t hz
      by_cases h7 : t.val % 8 = 7
      · rw [(flush0_9 t).mpr h7]; simp; omega
      · have hf : (cfg0.win 9).flush t = false := by
          rw [Bool.eq_false_iff]; intro hf; exact h7 ((flush0_9 t).mp hf)
        rw [hf, hi]; simp only [Bool.false_or, Bool.true_and]; rw [decide_eq_decide]; omega) n (by rw [show cfg0.N = 8 from N_0]; omega)
  rw [h]; simp; omega
theorem before0_9 (c : Dev nD) (t : Fin cfg0.N) (h : ¬ t.val % 8 = 0) (d) : (dats m 0 c).before 9 t d = DB m c := by
  have ht : t.val < 8 := Nat.lt_of_lt_of_eq t.isLt N_0
  rw [Dat.before_out_traj (dats m 0 c) 9 rfl (fun _ _ => rfl) (fun t _ _ _ => by rw [after0_9, after0_9]) t.val t rfl d,
    fresh0_9 t.val (by omega) ht, if_neg Bool.false_ne_true, after0_9]
theorem leaves0_9 (c : Dev nD) (t : Fin cfg0.N) (h : ¬ t.val % 8 = 0) :
    (owns (c : Thread nD τ) (ms0_9 t) fullShare (DB m c) : sProp 𝕄) ⊢ (dats m 0 c).leavesExact 9 t := by
  unfold Dat.leavesExact
  rw [show cfg0.idle 9 (cfg0.grid.coords t) = true from idle0_9_pos t h]
  cases hf : (cfg0.win 9).flush t
  · iintro H
    iexists (DB m c)
    rw [before0_9 m c t h]
    iexact H
  · rw [after0_9]

/-- Window 10 is idle at every point after the first, and only there. -/
theorem idle0_10_pos (t : Fin cfg0.N) (h : ¬ t.val % 8 = 0) : cfg0.idle 10 (grid0.coords t) = true := by
  have hn : ¬ cond0_0 (grid0.coords t) := fun h' => h ((hcond0_0 t).mp h')
  show (!(k0_cond1 (grid0.coords t) == 1#1)) = true
  simpa using hn
theorem live0_10_zero (t : Fin cfg0.N) (h : t.val % 8 = 0) : cfg0.idle 10 (grid0.coords t) = false := by
  have hn : cond0_0 (grid0.coords t) := (hcond0_0 t).mpr h
  show (!(k0_cond1 (grid0.coords t) == 1#1)) = false
  simpa using hn
/-- Its buffer holds what the first point stored at every later point. -/
theorem fresh0_10 : ∀ n, n ≠ 0 → n < 8 → cfg0.fresh 10 n = false := by
  intro n h0 h8
  have h := cfg0.fresh_tab 10 (fun n => decide (n = 0 ∨ n = 8)) rfl (by
    intro t
    have ht : t.val < 8 := Nat.lt_of_lt_of_eq t.isLt N_0
    by_cases hz : t.val % 8 = 0
    · have hf : (cfg0.win 10).flush t = false := by
        rw [Bool.eq_false_iff]; intro hf; have := (flush0_10 t).mp hf; omega
      have hi : cfg0.idle 10 (cfg0.grid.coords t) = false := live0_10_zero t hz
      rw [hf, hi]; simp; omega
    · have hi : cfg0.idle 10 (cfg0.grid.coords t) = true := idle0_10_pos t hz
      by_cases h7 : t.val % 8 = 7
      · rw [(flush0_10 t).mpr h7]; simp; omega
      · have hf : (cfg0.win 10).flush t = false := by
          rw [Bool.eq_false_iff]; intro hf; exact h7 ((flush0_10 t).mp hf)
        rw [hf, hi]; simp only [Bool.false_or, Bool.true_and]; rw [decide_eq_decide]; omega) n (by rw [show cfg0.N = 8 from N_0]; omega)
  rw [h]; simp; omega
theorem before0_10 (c : Dev nD) (t : Fin cfg0.N) (h : ¬ t.val % 8 = 0) (d) : (dats m 0 c).before 10 t d = DHT m c := by
  have ht : t.val < 8 := Nat.lt_of_lt_of_eq t.isLt N_0
  rw [Dat.before_out_traj (dats m 0 c) 10 rfl (fun _ _ => rfl) (fun t _ _ _ => by rw [after0_10, after0_10]) t.val t rfl d,
    fresh0_10 t.val (by omega) ht, if_neg Bool.false_ne_true, after0_10]
theorem leaves0_10 (c : Dev nD) (t : Fin cfg0.N) (h : ¬ t.val % 8 = 0) :
    (owns (c : Thread nD τ) (ms0_10 t) fullShare (DHT m c) : sProp 𝕄) ⊢ (dats m 0 c).leavesExact 10 t := by
  unfold Dat.leavesExact
  rw [show cfg0.idle 10 (cfg0.grid.coords t) = true from idle0_10_pos t h]
  cases hf : (cfg0.win 10).flush t
  · iintro H
    iexists (DHT m c)
    rw [before0_10 m c t h]
    iexact H
  · rw [after0_10]

/-! ## The body's triple at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

theorem Phi_castSucc (c : Dev nD) (t : Fin cfg0.N) : (dats m 0 c).Φ t.castSucc = Inv m c t.val := rfl
theorem Phi_succ (c : Dev nD) (t : Fin cfg0.N) : (dats m 0 c).Φ t.succ
    = iprop(iprop(owns (c : Thread nD τ) scM0_0 fullShare (S0 m c) ∗ owns (c : Thread nD τ) scM0_1 fullShare (S1 m c) ∗ owns (c : Thread nD τ) scM0_2 fullShare (S2 m c)) ∗ (∃ r, prngReg c r)) :=
  Inv_pos m c (Nat.succ_ne_zero t.val)

set_option maxHeartbeats 4000000 in
/-- The body's triple at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl, Phi_castSucc, Phi_succ]
  rw [show (dats m 0 c).leavesExact 0 t = owns (c : Thread nD τ) (ms0_0 t) fullShare ((dats m 0 c).after 0 t) from by
    unfold Dat.leavesExact; rw [show cfg0.idle 0 (cfg0.grid.coords t) = false from rfl], after0_0]
  rw [show (dats m 0 c).leavesExact 1 t = owns (c : Thread nD τ) (ms0_1 t) fullShare ((dats m 0 c).after 1 t) from by
    unfold Dat.leavesExact; rw [show cfg0.idle 1 (cfg0.grid.coords t) = false from rfl], after0_1]
  rw [show (dats m 0 c).leavesExact 2 t = owns (c : Thread nD τ) (ms0_2 t) fullShare ((dats m 0 c).after 2 t) from by
    unfold Dat.leavesExact; rw [show cfg0.idle 2 (cfg0.grid.coords t) = false from rfl], after0_2]
  rw [show (dats m 0 c).leavesExact 3 t = owns (c : Thread nD τ) (ms0_3 t) fullShare ((dats m 0 c).after 3 t) from by
    unfold Dat.leavesExact; rw [show cfg0.idle 3 (cfg0.grid.coords t) = false from rfl], after0_3]
  rw [show (dats m 0 c).leavesExact 4 t = owns (c : Thread nD τ) (ms0_4 t) fullShare ((dats m 0 c).after 4 t) from by
    unfold Dat.leavesExact; rw [show cfg0.idle 4 (cfg0.grid.coords t) = false from rfl], after0_4]
  rw [show (dats m 0 c).leavesExact 5 t = owns (c : Thread nD τ) (ms0_5 t) fullShare ((dats m 0 c).after 5 t) from by
    unfold Dat.leavesExact; rw [show cfg0.idle 5 (cfg0.grid.coords t) = false from rfl], after0_5]
  rw [show (dats m 0 c).leavesExact 6 t = owns (c : Thread nD τ) (ms0_6 t) fullShare ((dats m 0 c).after 6 t) from by
    unfold Dat.leavesExact; rw [show cfg0.idle 6 (cfg0.grid.coords t) = false from rfl], after0_6]
  rw [show (dats m 0 c).leavesExact 7 t = owns (c : Thread nD τ) (ms0_7 t) fullShare ((dats m 0 c).after 7 t) from by
    unfold Dat.leavesExact; rw [show cfg0.idle 7 (cfg0.grid.coords t) = false from rfl], after0_7]
  rw [show (dats m 0 c).leavesExact 8 t = owns (c : Thread nD τ) (ms0_8 t) fullShare ((dats m 0 c).after 8 t) from by
    unfold Dat.leavesExact; rw [show cfg0.idle 8 (cfg0.grid.coords t) = false from rfl], after0_8]
  by_cases h0 : t.val % 8 = 0
  · obtain rfl := eq_t0 t h0
    rw [show (dats m 0 c).leavesExact 9 t0 = owns (c : Thread nD τ) (ms0_9 t0) fullShare ((dats m 0 c).after 9 t0) from by
      unfold Dat.leavesExact; rw [show cfg0.idle 9 (cfg0.grid.coords t0) = false from live0_9_zero t0 h0], after0_9]
    rw [show (dats m 0 c).leavesExact 10 t0 = owns (c : Thread nD τ) (ms0_10 t0) fullShare ((dats m 0 c).after 10 t0) from by
      unfold Dat.leavesExact; rw [show cfg0.idle 10 (cfg0.grid.coords t0) = false from live0_10_zero t0 h0], after0_10]
    rw [show Inv m c t0.val = _ from Inv_zero m c, PhiA0_eq]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((run_first c (grid0.coords t0) _ _ _ _ _ _ _ _ _ _ _ _ _ _ _ _ _ _ _ _ _ _ _ _ _ _ _ _ ((hcond0_0 t0).mpr h0) (iblk m c 0 t0) (iblk m c 1 t0) (iblk m c 2 t0) (iblk m c 3 t0) (iblk m c 4 t0) (iblk m c 5 t0) (iblk m c 6 t0) (iblk m c 7 t0)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    iintro ⟨H0, H1, H2, H3, H4, H5, H6, H7, H8, H9, H10, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · have hz : t.val ≠ 0 := fun h => h0 (by rw [h])
    simp only [before0_9 m c t h0, before0_10 m c t h0]
    rw [Inv_pos m c hz]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((run_later c (grid0.coords t) _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (DB m c) (DHT m c) (S0 m c) (S1 m c) (S2 m c)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexact H10
    isplitl [HS0]; · iexact HS0
    isplitl [HS1]; · iexact HS1
    isplitl [HS2]; · iexact HS2
    iintro ⟨H0, H1, H2, H3, H4, H5, H6, H7, H8, H9, H10, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iapply (leaves0_9 m c t h0); iexact H9
    iapply (leaves0_10 m c t h0); iexact H10

/-! ## The run -/

theorem defs₀_row (t : Fin cfg0.N) : (defs₀ (F := F)) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats (F := F) m 0 c).Φ 0 := by
  rw [show (dats (F := F) m 0 c).Φ 0 = Inv m c 0 from rfl, Inv_zero]

theorem hout (c : Dev nD) : (dats (F := F) m 0 c).Φ (Fin.last cfg0.N) ⊢ Pipeline.ΦA spec0 c := by
  rw [show (dats (F := F) m 0 c).Φ (Fin.last cfg0.N) = Inv m c cfg0.N from rfl,
    Inv_pos m c (show cfg0.N ≠ 0 by rw [show cfg0.N = 8 from N_0]; decide), PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

set_option backward.isDefEq.respectTransparency.types false in
set_option maxHeartbeats 800000 in
/-- The run, every buffer of interest named at its end, and no semaphore left raised. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track cfgs (dats m) (0 : Fin 1) launch0 defs₀ Variants.none m ρ main
    (hbody := fun c => (body_obligation m c).loose) (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := A_eq m) (hin := hin m) (hout := hout m) (Q' := _)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame claim: the run ends with every argument as launched and no semaphore left raised. -/
theorem frame_run : θ_run defs (onTc (τ := τ) (main (F := F))) ⟨m, fun _ => 0, ρ⟩ (fun r =>
    (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7)) ∧ r.2.sem = fun _ => 0) :=
  θ_run_and (frame_of m ρ (dats m) (A_eq m) (run_main m ρ)) ((θ_run defs _ _).mono (fun _ h => h.2) (run_main_quiescent m ρ))

end Cert.KernelIdeal.Body

end
-- ==== Proof.Value.lean ====
/- The arrays the kernel's run ends with, read at an index as sums over its arguments. -/
module

public import proofs.«01_k».proof.Proof.Pieces
public import proofs.«01_k».proof.Proof.Run
public import Idealize.ShloMosaic.Lib.Pipeline.ValueKit

@[expose] public section

set_option maxRecDepth 16384

noncomputable section

namespace Cert.KernelIdeal.Body

open Idealize.ShloMosaic Idealize.ShloMosaic.TcCoe Idealize.SL.Sem
open Idealize.ShloMosaic.Pipeline (Dat)
open Cert.KernelIdeal Cert.KernelIdeal.Gen
open scoped BigOperators

variable (m : (ℓ : Loc nD τ sig) → Buf (Elt Ideal) ℓ)

/-- The arguments. -/
abbrev a0 (c : Dev nD) : FVec Ideal S3x640x1024 .fp8e5m2 := m ((c : Thread nD τ).loc main_arg0)
abbrev a1 (c : Dev nD) : FVec Ideal S3x640 .f32 := m ((c : Thread nD τ).loc main_arg1)
abbrev a2 (c : Dev nD) : FVec Ideal S3x640x16 .fp8e4m3 := m ((c : Thread nD τ).loc main_arg2)
abbrev a3 (c : Dev nD) : FVec Ideal S3x640 .f32 := m ((c : Thread nD τ).loc main_arg3)
abbrev a4 (c : Dev nD) : FVec Ideal S4096x1024 .fp8e4m3 := m ((c : Thread nD τ).loc main_arg4)
abbrev a5 (c : Dev nD) : FVec Ideal S1024 .f32 := m ((c : Thread nD τ).loc main_arg5)
abbrev a6 (c : Dev nD) : FVec Ideal S4096x16 .bf16 := m ((c : Thread nD τ).loc main_arg6)
abbrev a7 (c : Dev nD) : FVec Ideal S16x1024 .bf16 := m ((c : Thread nD τ).loc main_arg7)

theorem idx : ∀ t : Fin cfg0.N, win0_0.index t = ![0, 0] ∧ win0_1.index t = ![0, 0] ∧ win0_2.index t = ![0, 0, 0]
    ∧ win0_3.index t = ![0, 0] ∧ win0_4.index t = ![t.val, 0] ∧ win0_5.index t = ![0, 0] ∧ win0_6.index t = ![0, t.val]
    ∧ win0_7.index t = ![0, 0] ∧ win0_8.index t = ![0, t.val] ∧ win0_9.index t = ![0, 0] ∧ win0_10.index t = ![0, 0, 0] :=
  (by decide +kernel : ∀ t : Fin grid0.N, _)

/-- The arrays the host prepares before the kernel. -/
theorem V_v0_at (c : Dev nD) (r : Fin 1920) (o : Fin 1024) :
    (V m c main_v0 : FVec Ideal S1920x1024 .fp8e5m2) (ix2 r o) = a0 m c (ix3 ⟨r / 640, by omega⟩ ⟨r % 640, by omega⟩ o) := by
  have e : V m c main_v0 = shapeCast S1920x1024 (a0 m c : Vec Ideal S3x640x1024 .fp8e5m2) (by decide) := by
    simp only [V, V0, hostOps0, List.flatten_cons, List.flatten_nil, List.append_nil, List.cons_append, List.nil_append]
    after_results_simp
    rfl
  rw [e]; pointwise
theorem V_v1_at (c : Dev nD) (b : Fin 3) (k : Fin 16) (s : Fin 640) :
    (V m c main_v1 : FVec Ideal S3x16x640 .fp8e4m3) (ix3 b k s) = a2 m c (ix3 b s k) := by
  have e : V m c main_v1 = transpose S3x16x640 [0, 2, 1] (a2 m c : Vec Ideal S3x640x16 .fp8e4m3) transposes_S3x640x16_S3x16x640_0_2_1 := by
    simp only [V, V0, hostOps0, List.flatten_cons, List.flatten_nil, List.append_nil, List.cons_append, List.nil_append]
    after_results_simp
  rw [e]; pointwise
theorem V_v2_at (c : Dev nD) (b : Fin 1) (k : Fin 1024) :
    (V m c main_v2 : FVec Ideal S1x1024 .f32) (ix2 b k) = a5 m c (ix1 k) := by
  have e : V m c main_v2 = shapeCast S1x1024 (a5 m c : Vec Ideal S1024 .f32) (by decide) := by
    simp only [V, V0, hostOps0, List.flatten_cons, List.flatten_nil, List.append_nil, List.cons_append, List.nil_append]
    after_results_simp
    rfl
  rw [e]; pointwise
theorem V_v3_at (c : Dev nD) (k : Fin 16) (d : Fin 4096) :
    (V m c main_v3 : FVec Ideal S16x4096 .bf16) (ix2 k d) = a6 m c (ix2 d k) := by
  have e : V m c main_v3 = transpose S16x4096 [1, 0] (a6 m c : Vec Ideal S4096x16 .bf16) transposes_S4096x16_S16x4096_1_0 := by
    simp only [V, V0, hostOps0, List.flatten_cons, List.flatten_nil, List.append_nil, List.cons_append, List.nil_append]
    after_results_simp
  rw [e]; pointwise

/-- The blocks of the windows over the inputs. -/
theorem blk0_at (c : Dev nD) (t : Fin cfg0.N) (r : Fin 1920) (o : Fin 1024) :
    (iblk m c 0 t : FVec Ideal S1920x1024 .fp8e5m2) (ix2 r o) = a0 m c (ix3 ⟨r / 640, by omega⟩ ⟨r % 640, by omega⟩ o) := by
  refine Eq.trans ?_ (V_v0_at m c r o)
  blk_simp [iblk, idx t]
  blk_ext [idx t]
theorem blk1_at (c : Dev nD) (t : Fin cfg0.N) (b : Fin 3) (s : Fin 640) :
    (iblk m c 1 t : FVec Ideal S3x640 .f32) (ix2 b s) = a1 m c (ix2 b s) := by
  refine Eq.trans ?_ (congrFun (V_main_arg1 m c) (ix2 b s))
  blk_simp [iblk, idx t]
  blk_ext [idx t]
theorem blk2_at (c : Dev nD) (t : Fin cfg0.N) (b : Fin 3) (k : Fin 16) (s : Fin 640) :
    (iblk m c 2 t : FVec Ideal S3x16x640 .fp8e4m3) (ix3 b k s) = a2 m c (ix3 b s k) := by
  refine Eq.trans ?_ (V_v1_at m c b k s)
  blk_simp [iblk, idx t]
  blk_ext [idx t]
theorem blk3_at (c : Dev nD) (t : Fin cfg0.N) (b : Fin 3) (s : Fin 640) :
    (iblk m c 3 t : FVec Ideal S3x640 .f32) (ix2 b s) = a3 m c (ix2 b s) := by
  refine Eq.trans ?_ (congrFun (V_main_arg3 m c) (ix2 b s))
  blk_simp [iblk, idx t]
  blk_ext [idx t]
theorem t_lt (t : Fin cfg0.N) : t.val < 8 := t.isLt
theorem blk4_at (c : Dev nD) (t : Fin cfg0.N) (d : Fin 512) (k : Fin 1024) :
    (iblk m c 4 t : FVec Ideal S512x1024 .fp8e4m3) (ix2 d k) = a4 m c (ix2 ⟨512 * t.val + d, by have := t_lt t; omega⟩ k) := by
  refine Eq.trans ?_ (congrFun (V_main_arg4 m c) _)
  blk_simp [iblk, idx t]
  blk_ext [idx t]
theorem blk5_at (c : Dev nD) (t : Fin cfg0.N) (b : Fin 1) (k : Fin 1024) :
    (iblk m c 5 t : FVec Ideal S1x1024 .f32) (ix2 b k) = a5 m c (ix1 k) := by
  refine Eq.trans ?_ (V_v2_at m c b k)
  blk_simp [iblk, idx t]
  blk_ext [idx t]
theorem blk6_at (c : Dev nD) (t : Fin cfg0.N) (k : Fin 16) (d : Fin 512) :
    (iblk m c 6 t : FVec Ideal S16x512 .bf16) (ix2 k d) = a6 m c (ix2 ⟨512 * t.val + d, by have := t_lt t; omega⟩ k) := by
  refine Eq.trans ?_ (V_v3_at m c k _)
  blk_simp [iblk, idx t]
  blk_ext [idx t]
theorem blk7_at (c : Dev nD) (t : Fin cfg0.N) (k : Fin 16) (o : Fin 1024) :
    (iblk m c 7 t : FVec Ideal S16x1024 .bf16) (ix2 k o) = a7 m c (ix2 k o) := by
  refine Eq.trans ?_ (congrFun (V_main_arg7 m c) (ix2 k o))
  blk_simp [iblk, idx t]
  blk_ext [idx t]

attribute [local irreducible] DB DHT DX

/-- The arrays of the outputs after the last grid point. -/
theorem arr9 (c : Dev nD) : ((dats m 0 c).arrAt 9 cfg0.N : FVec Ideal S16x1024 .f32) = DB m c := by
  refine (dats m 0 c).arrAt_eq_of_covers 9 _ (by decide +kernel) fun t hf y => ?_
  blk_simp
  rw [after0_9]
  blk_ext [idx t]
theorem arr10 (c : Dev nD) : ((dats m 0 c).arrAt 10 cfg0.N : FVec Ideal S3x16x640 .f32) = DHT m c := by
  refine (dats m 0 c).arrAt_eq_of_covers 10 _ (by decide +kernel) fun t hf y => ?_
  blk_simp
  rw [after0_10]
  blk_ext [idx t]
/-- The first result as one array: column block `t` is what grid point `t` stores. -/
def DXA (c : Dev nD) : FVec Ideal S1920x4096 .bf16 := fun i =>
  (DX m c ⟨(i 1).val / 512, by have : (i 1).val < 4096 := (i 1).isLt; show _ < 8; omega⟩ : FVec Ideal S1920x512 .bf16)
    (ix2 (i 0) ⟨(i 1).val % 512, Nat.mod_lt _ (by decide)⟩)
theorem DXA_at (c : Dev nD) (t : Fin cfg0.N) (r : Fin 1920) (d : Fin 512) (h : 512 * t.val + d.val < 4096) :
    DXA m c (ix2 r ⟨512 * t.val + d, h⟩) = (DX m c t : FVec Ideal S1920x512 .bf16) (ix2 r d) := by
  have e : ∀ (t' : Fin cfg0.N) (d' : Fin 512), t' = t → d' = d →
      (DX m c t' : FVec Ideal S1920x512 .bf16) (ix2 r d') = (DX m c t : FVec Ideal S1920x512 .bf16) (ix2 r d) := by
    rintro _ _ rfl rfl; rfl
  exact e _ _ (Fin.ext (show (512 * t.val + d.val) / 512 = t.val by omega))
    (Fin.ext (show (512 * t.val + d.val) % 512 = d.val by omega))
theorem arr8 (c : Dev nD) : ((dats m 0 c).arrAt 8 cfg0.N : FVec Ideal S1920x4096 .bf16) = DXA m c := by
  refine (dats m 0 c).arrAt_eq_of_covers 8 _ (by decide +kernel) fun t hf y => ?_
  blk_simp
  rw [after0_8]
  have hy : (y : S1920x512.Idx) = ix2 (y 0) (y 1) := eq_ix2 y
  refine (congrArg (DX m c t : FVec Ideal S1920x512 .bf16) hy).trans ((DXA_at m c t _ _ (by
    have := t_lt t; have h : (y 1).val < 512 := (y 1).isLt; omega)).symm.trans (congrArg (DXA m c) ?_))
  blk_ext [idx t]

end Cert.KernelIdeal.Body

end
-- ==== Proof.Spec.lean ====
/- The three results as plain functions of the eight arguments: what the kernel and the reference are both shown to compute. -/
module

public import proofs.«01_k».proof.Proof.Gen.KernelIdeal
public import Idealize.ShloMosaic.Lib.Pipeline.ValueKit

@[expose] public section

noncomputable section

namespace Cert.Spec

open Idealize.ShloMosaic
open Cert.KernelIdeal
open scoped BigOperators

/-- The factor of the low-rank branch, as the programs print it. -/
def two : EReal := Ideal.ofBits .f32 0x40000000#32

/-- The gradient of the hidden activation: token `(b, s)` of `dy` against row `k` of `lora_b`, rescaled and doubled. -/
def dhAt (x0 : FVec Ideal S3x640x1024 .fp8e5m2) (x1 : FVec Ideal S3x640 .f32) (x7 : FVec Ideal S16x1024 .bf16)
    (b : Fin 3) (s : Fin 640) (k : Fin 16) : EReal :=
  (∑ o : Fin 1024, x0 (ix3 b s o) * x7 (ix2 k o)) * x1 (ix2 b s) * two

/-- The gradient of `lora_b`: over all tokens, the rescaled `z` against the rescaled `dy`, doubled. -/
def dbAt (x0 : FVec Ideal S3x640x1024 .fp8e5m2) (x1 : FVec Ideal S3x640 .f32) (x2 : FVec Ideal S3x640x16 .fp8e4m3)
    (x3 : FVec Ideal S3x640 .f32) (k : Fin 16) (o : Fin 1024) : EReal :=
  two * ∑ b : Fin 3, ∑ s : Fin 640, (x2 (ix3 b s k) * x3 (ix2 b s)) * (x0 (ix3 b s o) * x1 (ix2 b s))

/-- The gradient of the input: the frozen branch against the rescaled weight, plus the low-rank branch `dh @ lora_a.T`. -/
def dxAt (x0 : FVec Ideal S3x640x1024 .fp8e5m2) (x1 : FVec Ideal S3x640 .f32) (x4 : FVec Ideal S4096x1024 .fp8e4m3)
    (x5 : FVec Ideal S1024 .f32) (x6 : FVec Ideal S4096x16 .bf16) (x7 : FVec Ideal S16x1024 .bf16)
    (b : Fin 3) (s : Fin 640) (d : Fin 4096) : EReal :=
  (∑ k : Fin 1024, x0 (ix3 b s k) * (x4 (ix2 d k) * x5 (ix1 k))) * x1 (ix2 b s)
    + ∑ k : Fin 16, dhAt x0 x1 x7 b s k * x6 (ix2 d k)

def dh (x0 : FVec Ideal S3x640x1024 .fp8e5m2) (x1 : FVec Ideal S3x640 .f32) (x7 : FVec Ideal S16x1024 .bf16) :
    FVec Ideal S3x640x16 .bf16 := fun i => dhAt x0 x1 x7 (i 0) (i 1) (i 2)
def db (x0 : FVec Ideal S3x640x1024 .fp8e5m2) (x1 : FVec Ideal S3x640 .f32) (x2 : FVec Ideal S3x640x16 .fp8e4m3)
    (x3 : FVec Ideal S3x640 .f32) : FVec Ideal S16x1024 .f32 := fun i => dbAt x0 x1 x2 x3 (i 0) (i 1)
def dx (x0 : FVec Ideal S3x640x1024 .fp8e5m2) (x1 : FVec Ideal S3x640 .f32) (x4 : FVec Ideal S4096x1024 .fp8e4m3)
    (x5 : FVec Ideal S1024 .f32) (x6 : FVec Ideal S4096x16 .bf16) (x7 : FVec Ideal S16x1024 .bf16) :
    FVec Ideal S3x640x4096 .bf16 := fun i => dxAt x0 x1 x4 x5 x6 x7 (i 0) (i 1) (i 2)

end Cert.Spec

end
-- ==== Proof.Final.lean ====
/- The kernel's run at the ideal values: its three results are the plain functions of `Spec`, its arguments unchanged. -/
module

public import proofs.«01_k».proof.Proof.Value
public import proofs.«01_k».proof.Proof.Spec
public import Idealize.ShloMosaic.Lib.StableHlo.Run
public import Idealize.ShloMosaic.Lib.Pipeline.FrameSuffix

@[expose] public section

set_option maxRecDepth 16384

noncomputable section

namespace Cert.KernelIdeal.Body

open Idealize.ShloMosaic Idealize.ShloMosaic.TcCoe Idealize.SL.Sem Idealize.ShloMosaic.StableHlo
open Idealize.ShloMosaic.Pipeline (Dat)
open Cert.KernelIdeal Cert.KernelIdeal.Gen
open scoped BigOperators

variable (m : (ℓ : Loc nD τ sig) → Buf (Elt Ideal) ℓ) (ρ : Dev nD → PrngReg)

/-- A row of the flattened `dy` is a token of a batch. -/
theorem blk0_tok (c : Dev nD) (t : Fin cfg0.N) (b : Fin 3) (s : Fin 640) (o : Fin 1024) (h : 640 * b.val + s.val < 1920) :
    (iblk m c 0 t : FVec Ideal S1920x1024 .fp8e5m2) (ix2 ⟨640 * b + s, h⟩ o) = a0 m c (ix3 b s o) := by
  refine (blk0_at m c t _ o).trans (congrArg (a0 m c) ?_)
  have e0 : (⟨(640 * b.val + s.val) / 640, by omega⟩ : Fin 3) = b := Fin.ext (show _ / _ = b.val by omega)
  have e1 : (⟨(640 * b.val + s.val) % 640, by omega⟩ : Fin 640) = s := Fin.ext (show _ % _ = s.val by omega)
  simp only [e0, e1]
/-- The scale of that row is the token's. -/
theorem tok_at (c : Dev nD) (t : Fin cfg0.N) (b : Fin 3) (s : Fin 640) (h : 640 * b.val + s.val < 1920) :
    tok (iblk m c 1 t) ⟨640 * b + s, h⟩ = a1 m c (ix2 b s) := by
  unfold tok
  refine (blk1_at m c t _ _).trans (congrArg (a1 m c) ?_)
  have e0 : (⟨(640 * b.val + s.val) / 640, by omega⟩ : Fin 3) = b := Fin.ext (show _ / _ = b.val by omega)
  have e1 : (⟨(640 * b.val + s.val) % 640, by omega⟩ : Fin 640) = s := Fin.ext (show _ % _ = s.val by omega)
  simp only [e0, e1]

/-- A row of the flattened `dy` against a row of `lora_b`. -/
theorem dot_of (x0 : FVec Ideal S1920x1024 .fp8e5m2) (x7 y7 : FVec Ideal S16x1024 .bf16) (y0 : FVec Ideal S3x640x1024 .fp8e5m2)
    (r : Fin 1920) (b : Fin 3) (s : Fin 640) (k : Fin 16) (h0 : ∀ o, x0 (ix2 r o) = y0 (ix3 b s o)) (h7 : ∀ o, x7 (ix2 k o) = y7 (ix2 k o)) :
    (∑ o : Fin 1024, x7 (ix2 k o) * x0 (ix2 r o)) = ∑ o : Fin 1024, y0 (ix3 b s o) * y7 (ix2 k o) :=
  Finset.sum_congr rfl fun o _ => by rw [h0, h7, mul_comm]

theorem DHT_at (c : Dev nD) (b : Fin 3) (k : Fin 16) (s : Fin 640) :
    (DHT m c : FVec Ideal S3x16x640 .bf16) (ix3 b k s) = Spec.dhAt (a0 m c) (a1 m c) (a7 m c) b s k := by
  unfold DHT
  refine (dhtV_at _ _ _ b k s).trans ?_
  unfold Spec.dhAt Spec.two
  exact congrArg₂ (fun p q : EReal => p * q * Ideal.ofBits .f32 0x40000000#32) (dot_of _ _ _ _ _ b s k (fun o => blk0_tok m c t0 b s o (by omega)) (fun o => blk7_at m c t0 k o)) (blk1_at m c t0 b s)

theorem DB_at (c : Dev nD) (k : Fin 16) (o : Fin 1024) :
    (DB m c : FVec Ideal S16x1024 .f32) (ix2 k o) = Spec.dbAt (a0 m c) (a1 m c) (a2 m c) (a3 m c) k o := by
  unfold DB
  refine (dbV_at _ _ _ _ k o).trans ?_
  unfold Spec.dbAt Spec.two
  simp only [blk0_tok, blk1_at, blk2_at, blk3_at]

theorem DX_at (c : Dev nD) (t : Fin cfg0.N) (b : Fin 3) (s : Fin 640) (d : Fin 512) (h : 640 * b.val + s.val < 1920) (h' : 512 * t.val + d.val < 4096) :
    (DX m c t : FVec Ideal S1920x512 .bf16) (ix2 ⟨640 * b + s, h⟩ d)
      = Spec.dxAt (a0 m c) (a1 m c) (a4 m c) (a5 m c) (a6 m c) (a7 m c) b s ⟨512 * t.val + d, h'⟩ := by
  unfold DX S0 S1 S2
  refine (dxBlk_at _ _ _ _ _ _ _ d).trans ?_
  unfold Spec.dxAt Spec.dhAt Spec.two
  refine congrArg₂ (fun p q : EReal => p + q) (congrArg₂ (fun p q : EReal => p * q) (Finset.sum_congr rfl fun k _ => ?_) (tok_at m c t0 b s h))
    (Finset.sum_congr rfl fun k _ => congrArg₂ (fun p q : EReal => p * q)
      (congrArg₂ (fun p q : EReal => p * q * Ideal.ofBits .f32 0x40000000#32) (dot_of _ _ _ _ _ b s k (fun o => blk0_tok m c t0 b s o h) (fun o => blk7_at m c t0 k o)) (tok_at m c t0 b s h)) (blk6_at m c t k d))
  exact congrArg₂ (fun p q : EReal => p * q) (blk0_tok m c t0 b s k h)
    (congrArg₂ (fun p q : EReal => p * q) (blk4_at m c t d k) (blk5_at m c t 0 k))

/-- The contents of the arrays when the kernel is left. -/
abbrev exitV (c : Dev nD) : Valuation τ sig (Elt Ideal) :=
  Pipeline.withArrays spec0 c (Gen.V0 m c) fun w => (dats m 0 c).arrAt w cfg0.N

theorem exit_v4_0 (c : Dev nD) : exitV m c (Proc.devRef .tc main_v4_0) = DXA m c :=
  (Pipeline.withArrays_arr spec0 Gen.launch0.win.arr_inj c (Gen.V0 m c) _ 8).trans (arr8 m c)
theorem exit_v4_2 (c : Dev nD) : exitV m c (Proc.devRef .tc main_v4_2) = DHT m c :=
  (Pipeline.withArrays_arr spec0 Gen.launch0.win.arr_inj c (Gen.V0 m c) _ 10).trans (arr10 m c)

theorem tail_v5 (V0 : Valuation τ sig (Elt Ideal)) :
    after (List.flatten [Gen.hostOps1]) V0 (Proc.devRef .tc main_v5)
      = shapeCast S3x640x4096 (V0 (Proc.devRef .tc main_v4_0) : Vec Ideal S1920x4096 .bf16) shapeCasts_S1920x4096_S3x640x4096 := by
  simp only [Gen.hostOps1, List.flatten_cons, List.flatten_nil, List.append_nil, List.cons_append, List.nil_append]
  after_results_simp
  rfl
theorem tail_v6 (V0 : Valuation τ sig (Elt Ideal)) :
    after (List.flatten [Gen.hostOps1]) V0 (Proc.devRef .tc main_v6)
      = transpose S3x640x16 [0, 2, 1] (V0 (Proc.devRef .tc main_v4_2) : Vec Ideal S3x16x640 .bf16) transposes_S3x16x640_S3x640x16_0_2_1 := by
  simp only [Gen.hostOps1, List.flatten_cons, List.flatten_nil, List.append_nil, List.cons_append, List.nil_append]
  after_results_simp

attribute [local irreducible] DB DHT DX DXA Spec.dxAt Spec.dbAt Spec.dhAt

theorem DXA_at' (c : Dev nD) (b : Fin 3) (s : Fin 640) (d : Fin 4096) (h : 640 * b.val + s.val < 1920) :
    DXA m c (ix2 ⟨640 * b + s, h⟩ d) = Spec.dxAt (a0 m c) (a1 m c) (a4 m c) (a5 m c) (a6 m c) (a7 m c) b s d := by
  have ht : d.val / 512 < cfg0.N := by show _ < 8; omega
  have h' : 512 * (d.val / 512) + d.val % 512 < 4096 := by omega
  have e : (⟨512 * (d.val / 512) + d.val % 512, h'⟩ : Fin 4096) = d := Fin.ext (show _ + _ = d.val by omega)
  have := (DXA_at m c ⟨d.val / 512, ht⟩ ⟨640 * b + s, h⟩ ⟨d.val % 512, Nat.mod_lt _ (by decide)⟩ h').trans
    (DX_at m c ⟨d.val / 512, ht⟩ b s ⟨d.val % 512, Nat.mod_lt _ (by decide)⟩ h h')
  simp only [e] at this
  exact this

/-- Result `dx`. -/
theorem fin_v5 (c : Dev nD) : Pipeline.afterTail₀ cfgs (dats m) 0 (Gen.V0 m) [Gen.hostOps1] c main_v5
    = Spec.dx (a0 m c) (a1 m c) (a4 m c) (a5 m c) (a6 m c) (a7 m c) := by
  refine (tail_v5 (exitV m c)).trans ?_
  rw [exit_v4_0]
  funext i
  idx_vars i
  refine Eq.trans ?_ (DXA_at' m c _ _ _ (by omega))
  pointwise
  exact congrArg (DXA m c) ((ix2_inj ..).2 ⟨Fin.ext (show _ * 640 + _ = 640 * _ + _ by omega), rfl⟩)
/-- Result `dh`. -/
theorem fin_v6 (c : Dev nD) : Pipeline.afterTail₀ cfgs (dats m) 0 (Gen.V0 m) [Gen.hostOps1] c main_v6
    = Spec.dh (a0 m c) (a1 m c) (a7 m c) := by
  refine (tail_v6 (exitV m c)).trans ?_
  rw [exit_v4_2]
  funext i
  idx_vars i
  refine Eq.trans ?_ (DHT_at m c _ _ _)
  pointwise
/-- Result `db`. -/
theorem fin_v4_1 (c : Dev nD) : ((dats m 0 c).arrAt 9 cfg0.N : FVec Ideal S16x1024 .f32)
    = Spec.db (a0 m c) (a1 m c) (a2 m c) (a3 m c) := by
  rw [arr9]
  funext i
  idx_vars i
  exact DB_at m c _ _

/-- The kernel's run: the results are the plain functions of the arguments, the arguments unchanged. -/
theorem value_run : θ_run defs (onTc (τ := τ) (main (F := Ideal))) ⟨m, fun _ => 0, ρ⟩ (fun r => ∀ c : Dev nD,
    r.2.mem ((c.tc : Thread nD τ).loc main_v5) = Spec.dx (a0 m c) (a1 m c) (a4 m c) (a5 m c) (a6 m c) (a7 m c)
    ∧ r.2.mem ((c.tc : Thread nD τ).loc main_v4_1) = Spec.db (a0 m c) (a1 m c) (a2 m c) (a3 m c)
    ∧ r.2.mem ((c.tc : Thread nD τ).loc main_v6) = Spec.dh (a0 m c) (a1 m c) (a7 m c)
    ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7)) :=
  (θ_run defs _ _).mono (fun _ h c =>
    ⟨((h.1 c).2 main_v5 (Pipeline.mem_restRefs_of main_v5 (by decide) (by decide))).trans (fin_v5 m c),
      ((h.1 c).1 9).trans (fin_v4_1 m c),
      ((h.1 c).2 main_v6 (Pipeline.mem_restRefs_of main_v6 (by decide) (by decide))).trans (fin_v6 m c), h.2 c⟩)
    (θ_run_and (run_main m ρ) (frame_of m ρ (dats m) (A_eq m) (run_main m ρ)))

end Cert.KernelIdeal.Body

end
-- ==== Proof.RefValue.lean ====
/- The results of the reference, read at an index as sums over its arguments. -/
module

public import proofs.«01_k».proof.Proof.Gen.ReferenceIdeal.Run
public import proofs.«01_k».proof.Proof.Gen.ReferenceIdeal.Read
public import proofs.«01_k».proof.Proof.Spec
public import Idealize.ShloMosaic.Lib.Pipeline.ValueKit
public import Idealize.ShloMosaic.Lib.TwoAxisContraction

@[expose] public section

set_option maxRecDepth 16384

noncomputable section

namespace Cert.ReferenceIdeal.Value

open Idealize.ShloMosaic Idealize.ShloMosaic.TcCoe Idealize.SL.Sem
open Idealize.ShloMosaic.Pipeline (Dat)
open Cert.ReferenceIdeal Cert.ReferenceIdeal.Gen
open scoped BigOperators

/-- The two-axis contraction of `db` at an index. -/
theorem db_at (x1 x3 : FVec Ideal S3x640 .f32) (r0 : FVec Ideal S3x640x1024 .bf16) (r1 : FVec Ideal S3x640x16 .bf16)
    (k : Fin 16) (o : Fin 1024) :
    Read.val_main_v11 (F := Ideal) x1 x3 r0 r1 (ix2 k o) = Ideal.ofBits .f32 0x40000000#32
      * ∑ b : Fin 3, ∑ s : Fin 640, (r1 (ix3 b s k) * x3 (ix2 b s)) * (r0 (ix3 b s o) * x1 (ix2 b s)) := by
  pointwise [Read.val_main_v11, Read.val_main_v10, Read.val_main_cst, Read.val_main_v9, Read.val_main_v8, Read.val_main_v7,
    Read.val_main_v6, Read.val_main_v5, Read.val_main_v4, Read.val_main_v3, Read.val_main_v2, Read.val_main_v1]

/-- `dh` at an index. -/
theorem dh_at (x1 : FVec Ideal S3x640 .f32) (x7 : FVec Ideal S16x1024 .bf16) (r0 : FVec Ideal S3x640x1024 .bf16)
    (b : Fin 3) (s : Fin 640) (k : Fin 16) :
    Read.val_main_v18 (F := Ideal) x1 x7 r0 (ix3 b s k)
      = (∑ o : Fin 1024, r0 (ix3 b s o) * x7 (ix2 k o)) * x1 (ix2 b s) * Ideal.ofBits .f32 0x40000000#32 := by
  pointwise [Read.val_main_v18, Read.val_main_v17, Read.val_main_v16, Read.val_main_cst_0, Read.val_main_v15, Read.val_main_v14,
    Read.val_main_v13, Read.val_main_v12]

/-- `dx` at an index. -/
theorem dx_at (x1 : FVec Ideal S3x640 .f32) (x5 : FVec Ideal S1024 .f32) (x6 : FVec Ideal S4096x16 .bf16)
    (x7 : FVec Ideal S16x1024 .bf16) (r0 : FVec Ideal S3x640x1024 .bf16) (r2 : FVec Ideal S4096x1024 .bf16)
    (b : Fin 3) (s : Fin 640) (d : Fin 4096) :
    Read.val_main_v29 (F := Ideal) x1 x5 x6 x7 r0 r2 (ix3 b s d)
      = (∑ k : Fin 1024, r0 (ix3 b s k) * (r2 (ix2 d k) * x5 (ix1 k))) * x1 (ix2 b s)
        + ∑ k : Fin 16, ((∑ o : Fin 1024, r0 (ix3 b s o) * x7 (ix2 k o)) * x1 (ix2 b s) * Ideal.ofBits .f32 0x40000000#32)
            * x6 (ix2 d k) := by
  pointwise [Read.val_main_v29, Read.val_main_v28, Read.val_main_v27, Read.val_main_v26, Read.val_main_v25, Read.val_main_v24,
    Read.val_main_v23, Read.val_main_v22, Read.val_main_v21, Read.val_main_v20, Read.val_main_v19,
    Read.val_main_v18, Read.val_main_v17, Read.val_main_v16, Read.val_main_cst_0, Read.val_main_v15, Read.val_main_v14,
    Read.val_main_v13, Read.val_main_v12]

variable (m : (ℓ : Loc nD τ sig) → Buf (Elt Ideal) ℓ)

theorem idx : ∀ t : Fin cfg0.N, win0_0.index t = ![0, 0, 0] ∧ win0_1.index t = ![0, 0, 0] ∧ win0_2.index t = ![0, 0]
    ∧ win0_3.index t = ![0, 0, 0] ∧ win0_4.index t = ![0, 0, 0] ∧ win0_5.index t = ![0, 0] :=
  (by decide +kernel : ∀ t : Fin grid0.N, _)

/-- The decoding kernel stores the codes it reads. -/
theorem out0_at (x0 : Vec Ideal S3x640x1024 .fp8e5m2) (x1 : Vec Ideal S3x640x16 .fp8e4m3) (x2 : Vec Ideal S4096x1024 .fp8e4m3) :
    (out0_3 (F := Ideal) x0 x1 x2 : FVec Ideal S3x640x1024 .bf16) = fun i => (x0 : FVec Ideal S3x640x1024 .fp8e5m2) i := by
  funext i
  unfold out0_3
  canon_tiles x h
  have e : x = i := by
    funext a
    fin_cases a
    · exact Fin.ext h0.symm
    · exact Fin.ext h1.symm
    · exact Fin.ext h2.symm
  rw [e]
  pointwise [k0_pay1]
theorem out1_at (x0 : Vec Ideal S3x640x1024 .fp8e5m2) (x1 : Vec Ideal S3x640x16 .fp8e4m3) (x2 : Vec Ideal S4096x1024 .fp8e4m3) :
    (out0_4 (F := Ideal) x0 x1 x2 : FVec Ideal S3x640x16 .bf16) = fun i => (x1 : FVec Ideal S3x640x16 .fp8e4m3) i := by
  funext i
  unfold out0_4
  canon_tiles x h
  have e : x = i := by
    funext a
    fin_cases a
    · exact Fin.ext h0.symm
    · exact Fin.ext h1.symm
    · exact Fin.ext h2.symm
  rw [e]
  pointwise [k0_pay2]
theorem out2_at (x0 : Vec Ideal S3x640x1024 .fp8e5m2) (x1 : Vec Ideal S3x640x16 .fp8e4m3) (x2 : Vec Ideal S4096x1024 .fp8e4m3) :
    (out0_5 (F := Ideal) x0 x1 x2 : FVec Ideal S4096x1024 .bf16) = fun i => (x2 : FVec Ideal S4096x1024 .fp8e4m3) i := by
  funext i
  unfold out0_5
  canon_tiles x h
  have e : x = i := by
    funext a
    fin_cases a
    · exact Fin.ext h0.symm
    · exact Fin.ext h1.symm
  rw [e]
  pointwise [k0_pay3]

/-- The decoded codes are the codes. -/
theorem reg0 (c : Dev nD) : (reg_main_v0_0 m c : FVec Ideal S3x640x1024 .bf16)
    = fun i => (m ((c : Thread nD τ).loc main_arg0) : FVec Ideal S3x640x1024 .fp8e5m2) i := by
  unfold reg_main_v0_0
  refine (dats m 0 c).arrAt_eq_of_covers 3 _ (by decide +kernel) fun t hf y => ?_
  rw [after0_3, out0_at]
  refine Eq.trans ?_ (congrFun (V_main_arg0 m c) _)
  blk_simp [iblk, idx t]
  blk_ext [idx t]
theorem reg1 (c : Dev nD) : (reg_main_v0_1 m c : FVec Ideal S3x640x16 .bf16)
    = fun i => (m ((c : Thread nD τ).loc main_arg2) : FVec Ideal S3x640x16 .fp8e4m3) i := by
  unfold reg_main_v0_1
  refine (dats m 0 c).arrAt_eq_of_covers 4 _ (by decide +kernel) fun t hf y => ?_
  rw [after0_4, out1_at]
  refine Eq.trans ?_ (congrFun (V_main_arg2 m c) _)
  blk_simp [iblk, idx t]
  blk_ext [idx t]
theorem reg2 (c : Dev nD) : (reg_main_v0_2 m c : FVec Ideal S4096x1024 .bf16)
    = fun i => (m ((c : Thread nD τ).loc main_arg4) : FVec Ideal S4096x1024 .fp8e4m3) i := by
  unfold reg_main_v0_2
  refine (dats m 0 c).arrAt_eq_of_covers 5 _ (by decide +kernel) fun t hf y => ?_
  rw [after0_5, out2_at]
  refine Eq.trans ?_ (congrFun (V_main_arg4 m c) _)
  blk_simp [iblk, idx t]
  blk_ext [idx t]

/-- The arguments. -/
abbrev a0 (c : Dev nD) : FVec Ideal S3x640x1024 .fp8e5m2 := m ((c : Thread nD τ).loc main_arg0)
abbrev a1 (c : Dev nD) : FVec Ideal S3x640 .f32 := m ((c : Thread nD τ).loc main_arg1)
abbrev a2 (c : Dev nD) : FVec Ideal S3x640x16 .fp8e4m3 := m ((c : Thread nD τ).loc main_arg2)
abbrev a3 (c : Dev nD) : FVec Ideal S3x640 .f32 := m ((c : Thread nD τ).loc main_arg3)
abbrev a4 (c : Dev nD) : FVec Ideal S4096x1024 .fp8e4m3 := m ((c : Thread nD τ).loc main_arg4)
abbrev a5 (c : Dev nD) : FVec Ideal S1024 .f32 := m ((c : Thread nD τ).loc main_arg5)
abbrev a6 (c : Dev nD) : FVec Ideal S4096x16 .bf16 := m ((c : Thread nD τ).loc main_arg6)
abbrev a7 (c : Dev nD) : FVec Ideal S16x1024 .bf16 := m ((c : Thread nD τ).loc main_arg7)

/-- Result `dx`. -/
theorem v29_eq (c : Dev nD) : Read.val_main_v29 (F := Ideal) (a1 m c) (a5 m c) (a6 m c) (a7 m c) (reg_main_v0_0 m c) (reg_main_v0_2 m c)
    = Spec.dx (a0 m c) (a1 m c) (a4 m c) (a5 m c) (a6 m c) (a7 m c) := by
  rw [reg0, reg2]
  funext i
  idx_vars i
  exact dx_at _ _ _ _ _ _ _ _ _
/-- Result `db`. -/
theorem v11_eq (c : Dev nD) : Read.val_main_v11 (F := Ideal) (a1 m c) (a3 m c) (reg_main_v0_0 m c) (reg_main_v0_1 m c)
    = Spec.db (a0 m c) (a1 m c) (a2 m c) (a3 m c) := by
  rw [reg0, reg1]
  funext i
  idx_vars i
  exact db_at _ _ _ _ _ _
/-- Result `dh`. -/
theorem v18_eq (c : Dev nD) : Read.val_main_v18 (F := Ideal) (a1 m c) (a7 m c) (reg_main_v0_0 m c)
    = Spec.dh (a0 m c) (a1 m c) (a7 m c) := by
  rw [reg0]
  funext i
  idx_vars i
  exact dh_at _ _ _ _ _ _

/-- The reference's run: the results are the plain functions of the arguments, the arguments unchanged. -/
theorem value_run (ρ : Dev nD → PrngReg) : θ_run defs (onTc (τ := τ) (main (F := Ideal))) ⟨m, fun _ => 0, ρ⟩ (fun r => ∀ c : Dev nD,
    r.2.mem ((c.tc : Thread nD τ).loc main_v29) = Spec.dx (a0 m c) (a1 m c) (a4 m c) (a5 m c) (a6 m c) (a7 m c)
    ∧ r.2.mem ((c.tc : Thread nD τ).loc main_v11) = Spec.db (a0 m c) (a1 m c) (a2 m c) (a3 m c)
    ∧ r.2.mem ((c.tc : Thread nD τ).loc main_v18) = Spec.dh (a0 m c) (a1 m c) (a7 m c)
    ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7)) :=
  (θ_run defs _ _).mono (fun _ h c =>
    ⟨(h c).1.trans (v29_eq m c), (h c).2.1.trans (v11_eq m c), (h c).2.2.1.trans (v18_eq m c), (h c).2.2.2⟩) (run m ρ)

end Cert.ReferenceIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Bits.Run
public import proofs.«01_k».proof.Proof.Final
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- The kernel and the reference end with the same three results. -/
theorem algebraic : Cert.algebraic_KernelIdeal_ReferenceIdeal (hKernelIdeal := Cert.KernelIdeal.Gen.facts)
    (hReferenceIdeal := Cert.ReferenceIdeal.Gen.facts) := by
  intro m g m' g' hpre hagree
  refine ⟨_, _, _, Cert.KernelIdeal.Body.value_run m g, ?_⟩
  refine (θ_run _ _ _).mono (fun _ h c => ?_) (Cert.ReferenceIdeal.Value.value_run m' g')
  obtain ⟨e0, e1, e2, e3, e4, e5, e6, e7⟩ := hagree c
  obtain ⟨h0, h1, h2, hargs⟩ := h c
  refine ⟨h0.trans ?_, h1.trans ?_, h2.trans ?_, hargs⟩
  · simp only [Cert.ReferenceIdeal.Value.a0, Cert.ReferenceIdeal.Value.a1, Cert.ReferenceIdeal.Value.a4, Cert.ReferenceIdeal.Value.a5,
      Cert.ReferenceIdeal.Value.a6, Cert.ReferenceIdeal.Value.a7]
    rw [e0, e1, e4, e5, e6, e7]
  · simp only [Cert.ReferenceIdeal.Value.a0, Cert.ReferenceIdeal.Value.a1, Cert.ReferenceIdeal.Value.a2, Cert.ReferenceIdeal.Value.a3]
    rw [e0, e1, e2, e3]
  · simp only [Cert.ReferenceIdeal.Value.a0, Cert.ReferenceIdeal.Value.a1, Cert.ReferenceIdeal.Value.a7]
    rw [e0, e1, e7]

theorem claim : Cert.Claim := ⟨Cert.Kernel.Gen.facts, Cert.KernelIdeal.Gen.facts, Cert.ReferenceIdeal.Gen.facts,
  fun m g _ => Cert.Kernel.Body.frame_run m g, fun m g _ => Cert.KernelIdeal.Body.frame_run m g,
  fun m g _ => Cert.ReferenceIdeal.Gen.frame m g, trivial, algebraic⟩

end Cert.Proof

end
